-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nf4_table_finite_weight [hPre_nf4_table_finite_weight : Cert.Pre_nf4_table_finite_weight.Facts] (m : (ℓ : Loc Cert.KernelIdeal.nD Cert.KernelIdeal.τ Cert.KernelIdeal.sig) → Buf (Elt Ideal) ℓ) : Prop :=
  ∀ c : Dev Cert.KernelIdeal.nD,
    (Cert.Pre_nf4_table_finite_weight.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nf4_table_finite_weight [hPre_nf4_table_finite_weight : Cert.Pre_nf4_table_finite_weight.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nf4_table_finite_weight.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_nf4_table_finite_weight [hKernelIdeal : Cert.KernelIdeal.Facts] [hPre_nf4_table_finite_weight : Cert.Pre_nf4_table_finite_weight.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nf4_table_finite_weight m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_nf4_table_finite_weight [hReferenceIdeal : Cert.ReferenceIdeal.Facts] [hPre_nf4_table_finite_weight : Cert.Pre_nf4_table_finite_weight.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nf4_table_finite_weight m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "mid0" .f32 0xBF591CD8#32 ((-28457393 / 33554432 : ℝ) : EReal)
  ∧ IdealRules.named_const.Statement Cert.KernelIdeal.κ "mid1" .f32 0xBF1C5270#32 ((-20489441 / 33554432 : ℝ) : EReal)
  ∧ IdealRules.named_const.Statement Cert.KernelIdeal.κ "mid3" .f32 0xBEADEA76#32 ((-22795501 / 67108864 : ℝ) : EReal)
  ∧ IdealRules.named_const.Statement Cert.KernelIdeal.κ "mid4" .f32 0xBE703CEC#32 ((-31488473 / 134217728 : ℝ) : EReal)
  ∧ IdealRules.named_const.Statement Cert.KernelIdeal.κ "mid5" .f32 0xBE0D38BC#32 ((-37020399 / 268435456 : ℝ) : EReal)
  ∧ IdealRules.named_const.Statement Cert.KernelIdeal.κ "mid8" .f32 0x3DF64862#32 ((32280773 / 268435456 : ℝ) : EReal)
  ∧ IdealRules.named_const.Statement Cert.KernelIdeal.κ "mid10" .f32 0x3E9582D4#32 ((39193425 / 134217728 : ℝ) : EReal)
  ∧ IdealRules.named_const.Statement Cert.KernelIdeal.κ "mid14" .f32 0x3F5C89DA#32 ((28906419 / 33554432 : ℝ) : EReal)

def algebraic_KernelIdeal_ReferenceIdeal_pre_nf4_table_finite_weight [hKernelIdeal : Cert.KernelIdeal.Facts] [hReferenceIdeal : Cert.ReferenceIdeal.Facts] [hPre_nf4_table_finite_weight : Cert.Pre_nf4_table_finite_weight.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nf4_table_finite_weight m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_nf4_table_finite_weight : Cert.Pre_nf4_table_finite_weight.Facts),
    quiescent_Kernel (hKernel := hKernel)
    ∧ quiescent_KernelIdeal (hKernelIdeal := hKernelIdeal)
    ∧ quiescent_KernelIdeal_pre_nf4_table_finite_weight (hKernelIdeal := hKernelIdeal) (hPre_nf4_table_finite_weight := hPre_nf4_table_finite_weight)
    ∧ quiescent_ReferenceIdeal (hReferenceIdeal := hReferenceIdeal)
    ∧ quiescent_ReferenceIdeal_pre_nf4_table_finite_weight (hReferenceIdeal := hReferenceIdeal) (hPre_nf4_table_finite_weight := hPre_nf4_table_finite_weight)
    ∧ preserves_Kernel_KernelIdeal
    ∧ algebraic_KernelIdeal_ReferenceIdeal_pre_nf4_table_finite_weight (hKernelIdeal := hKernelIdeal) (hReferenceIdeal := hReferenceIdeal) (hPre_nf4_table_finite_weight := hPre_nf4_table_finite_weight)
-- ==== Pre_nf4_table_finite_weight.lean ====
abbrev S4096x2048 : Shape := ⟨2, ![4096, 2048]⟩
abbrev S2048x2048 : Shape := ⟨2, ![2048, 2048]⟩
abbrev S16 : Shape := ⟨1, ![16]⟩
abbrev S_ : Shape := ⟨0, ![]⟩
abbrev S2048 : Shape := ⟨1, ![2048]⟩
abbrev S2048x1 : Shape := ⟨2, ![2048, 1]⟩

class Facts : Prop where
  reducesTo_S2048x2048_S2048_d1 : S2048x2048.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x2048_0_1 : S2048x1.BroadcastsInDim S2048x2048 (![0, 1] : Fin 2 → Fin S2048x2048.rank)
  reducesTo_S16_S_d0 : S16.ReducesTo [0] S_
  bcast_S_S2048x2048 : S_.BroadcastsInDim S2048x2048 (![] : Fin 0 → Fin S2048x2048.rank)
  reducesTo_S2048x2048_S_d0_1 : S2048x2048.ReducesTo [0, 1] S_

variable [Facts]

noncomputable abbrev lit0 : Fin 16 → BitVec 32 := fun
  | 0 => 0xBF800000#32 | 1 => 0xBF3239B1#32 | 2 => 0xBF066B30#32 | 3 => 0xBECA32A0#32 | 4 => 0xBE91A24D#32 | 5 => 0xBE3D353F#32 | 6 => 0xBDBA7871#32 | 7 => 0x00000000#32
  | 8 => 0x3DA2FAFF#32 | 9 => 0x3E24CAE3#32 | 10 => 0x3E7C04DD#32 | 11 => 0x3EAD033A#32 | 12 => 0x3EE1A4B8#32 | 13 => 0x3F1007AB#32 | 14 => 0x3F3913B3#32 | 15 => 0x3F800000#32
  | _ => 0#32

def fn_part1 {F : FTy → Type} [FloatOps F] (main_v13 : FVec F S2048x2048 .f32) (main_v15 : IVec S_ 1) (main_v16 : FVec F S2048x2048 .f32) (main_cst_4 : FVec F S_ .f32) : IVec S_ 1 :=
  let main_v17 : FVec F S2048x2048 .f32 := broadcastInDim S2048x2048 ![] bcast_S_S2048x2048 main_cst_4
  let main_v18 : IVec S2048x2048 1 := cmpf .olt main_v16 main_v17
  let main_c_5 : IVec S_ 1 := constantI S_ 1 1#1
  let main_v19 : IVec S_ 1 := (fun x v => Host.reduce IntOp.andi x v reducesTo_S2048x2048_S_d0_1 h_S_) main_v18 main_c_5
  let main_cst_6 : FVec F S_ .f32 := constant S_ .f32 0x3EE1A4B8#32
  let main_v20 : FVec F S2048x2048 .f32 := broadcastInDim S2048x2048 ![] bcast_S_S2048x2048 main_cst_6
  let main_v21 : FVec F S2048x2048 .f32 := subf main_v13 main_v20
  let main_cst_7 : FVec F S_ .f32 := constant S_ .f32 0x3F1007AB#32
  let main_v22 : FVec F S2048x2048 .f32 := broadcastInDim S2048x2048 ![] bcast_S_S2048x2048 main_cst_7
  let main_v23 : FVec F S2048x2048 .f32 := subf main_v22 main_v13
  let main_v24 : IVec S2048x2048 1 := cmpf .ogt main_v21 main_v23
  let main_cst_8 : FVec F S_ .f32 := constant S_ .f32 0x3F006D04#32
  let main_v25 : FVec F S2048x2048 .f32 := broadcastInDim S2048x2048 ![] bcast_S_S2048x2048 main_cst_8
  let main_v26 : IVec S2048x2048 1 := cmpf .ogt main_v13 main_v25
  let main_v27 : IVec S_ 1 := andi main_v15 main_v19
  let main_v28 : IVec S2048x2048 1 := cmpi .eq main_v24 main_v26
  let main_c_9 : IVec S_ 1 := constantI S_ 1 1#1
  let main_v29 : IVec S_ 1 := (fun x v => Host.reduce IntOp.andi x v reducesTo_S2048x2048_S_d0_1 h_S_) main_v28 main_c_9
  let main_v30 : IVec S_ 1 := andi main_v27 main_v29
  main_v30

def fn {F : FTy → Type} [FloatOps F] (main_arg0 : FVec F S4096x2048 .f32) (main_arg1 : FVec F S2048x2048 .f32) (main_arg2 : FVec F S16 .f32) : IVec S_ 1 :=
  let main_cst : FVec F S16 .f32 := fun i => FloatOps.ofBits .f32 (lit0 (S16.rowMajor i))
  let main_cst_0 : FVec F S_ .f32 := constant S_ .f32 0xFF800000#32
  let main_v0 : FVec F S2048 .f32 := (fun x v => Host.reduce FloatOps.maximumf x v reducesTo_S2048x2048_S2048_d1 h_S_) main_arg1 main_cst_0
  let main_v1 : FVec F S2048x1 .f32 := broadcastInDim S2048x1 ![0] bcast_S2048_S2048x1_0 main_v0
  let main_cst_1 : FVec F S_ .f32 := constant S_ .f32 0x7F800000#32
  let main_v2 : FVec F S2048 .f32 := (fun x v => Host.reduce FloatOps.minimumf x v reducesTo_S2048x2048_S2048_d1 h_S_) main_arg1 main_cst_1
  let main_v3 : FVec F S2048x1 .f32 := broadcastInDim S2048x1 ![0] bcast_S2048_S2048x1_0 main_v2
  let main_v4 : FVec F S2048x1 .f32 := addf main_v1 main_v3
  let main_cst_2 : FVec F S_ .f32 := constant S_ .f32 0x40000000#32
  let main_v5 : FVec F S2048x1 .f32 := broadcastInDim S2048x1 ![] bcast_S_S2048x1 main_cst_2
  let main_v6 : FVec F S2048x1 .f32 := Host.divf main_v4 main_v5
  let main_v7 : FVec F S2048x2048 .f32 := broadcastInDim S2048x2048 ![0, 1] bcast_S2048x1_S2048x2048_0_1 main_v6
  let main_v8 : FVec F S2048x2048 .f32 := subf main_arg1 main_v7
  let main_v9 : FVec F S2048x1 .f32 := subf main_v1 main_v3
  let main_cst_3 : FVec F S_ .f32 := constant S_ .f32 0x40000000#32
  let main_v10 : FVec F S2048x1 .f32 := broadcastInDim S2048x1 ![] bcast_S_S2048x1 main_cst_3
  let main_v11 : FVec F S2048x1 .f32 := Host.divf main_v9 main_v10
  let main_v12 : FVec F S2048x2048 .f32 := broadcastInDim S2048x2048 ![0, 1] bcast_S2048x1_S2048x2048_0_1 main_v11
  let main_v13 : FVec F S2048x2048 .f32 := Host.divf main_v8 main_v12
  let main_v14 : IVec S16 1 := cmpf .oeq main_arg2 main_cst
  let main_c : IVec S_ 1 := constantI S_ 1 1#1
  let main_v15 : IVec S_ 1 := (fun x v => Host.reduce IntOp.andi x v reducesTo_S16_S_d0 h_S_) main_v14 main_c
  let main_v16 : FVec F S2048x2048 .f32 := Host.absf main_arg1
  let main_cst_4 : FVec F S_ .f32 := constant S_ .f32 0x7F800000#32
  fn_part1 (F := F) main_v13 main_v15 main_v16 main_cst_4
-- ==== Kernel.lean ====
abbrev S4096x2048 : Shape := ⟨2, ![4096, 2048]⟩
abbrev S2048x2048 : Shape := ⟨2, ![2048, 2048]⟩
abbrev S16 : Shape := ⟨1, ![16]⟩
abbrev S1024x2048 : Shape := ⟨2, ![1024, 2048]⟩
abbrev S256x2048 : Shape := ⟨2, ![256, 2048]⟩
abbrev S4096x256 : Shape := ⟨2, ![4096, 256]⟩
abbrev S256 : Shape := ⟨1, ![256]⟩
abbrev S256x1 : Shape := ⟨2, ![256, 1]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S16, .f32⟩
  | .hbm, ⟨3, _⟩ => ⟨S4096x2048, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S256x2048, .f32⟩
  | .local _ .vmem, ⟨5, _⟩ => ⟨S256x2048, .f32⟩
  | .local _ .vmem, ⟨6, _⟩ => ⟨S4096x256, .f32⟩
  | .local _ .vmem, ⟨7, _⟩ => ⟨S4096x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_3 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "mid0" => some ((-28457393 / 33554432 : ℝ) : EReal)
  | "mid1" => some ((-20489441 / 33554432 : ℝ) : EReal)
  | "mid10" => some ((39193425 / 134217728 : ℝ) : EReal)
  | "mid14" => some ((28906419 / 33554432 : ℝ) : EReal)
  | "mid3" => some ((-22795501 / 67108864 : ℝ) : EReal)
  | "mid4" => some ((-31488473 / 134217728 : ℝ) : EReal)
  | "mid5" => some ((-37020399 / 268435456 : ℝ) : EReal)
  | "mid8" => some ((32280773 / 268435456 : ℝ) : EReal)
  | _ => none
-- ==== ReferenceIdeal.lean ====
abbrev S4096x2048 : Shape := ⟨2, ![4096, 2048]⟩
abbrev S2048x2048 : Shape := ⟨2, ![2048, 2048]⟩
abbrev S16 : Shape := ⟨1, ![16]⟩
abbrev S30 : Shape := ⟨1, ![30]⟩
abbrev S_ : Shape := ⟨0, ![]⟩
abbrev S2048 : Shape := ⟨1, ![2048]⟩
abbrev S2048x1 : Shape := ⟨2, ![2048, 1]⟩
abbrev S4194304 : Shape := ⟨1, ![4194304]⟩
abbrev S4194304x1 : Shape := ⟨2, ![4194304, 1]⟩
abbrev S1x16 : Shape := ⟨2, ![1, 16]⟩
abbrev S4194304x16 : Shape := ⟨2, ![4194304, 16]⟩
abbrev S1 : Shape := ⟨1, ![1]⟩
abbrev S1x1 : Shape := ⟨2, ![1, 1]⟩
abbrev S2048x2048x1 : Shape := ⟨3, ![2048, 2048, 1]⟩
abbrev S1x1x30 : Shape := ⟨3, ![1, 1, 30]⟩
abbrev S2048x2048x30 : Shape := ⟨3, ![2048, 2048, 30]⟩

abbrev nBuf : Space → Nat
  | .hbm => 115
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S16, .f32⟩
  | .hbm, ⟨3, _⟩ => ⟨S30, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S4194304, .f32⟩
  | .hbm, ⟨23, _⟩ => ⟨S4194304x1, .f32⟩
  | .hbm, ⟨24, _⟩ => ⟨S1x16, .f32⟩
  | .hbm, ⟨25, _⟩ => ⟨S4194304x16, .f32⟩
  | .hbm, ⟨26, _⟩ => ⟨S4194304x16, .f32⟩
  | .hbm, ⟨27, _⟩ => ⟨S4194304x16, .f32⟩
  | .hbm, ⟨28, _⟩ => ⟨S4194304x16, .f32⟩
  | .hbm, ⟨29, _⟩ => ⟨S4194304x16, .i32⟩
  | .hbm, ⟨30, _⟩ => ⟨S_, .f32⟩
  | .hbm, ⟨31, _⟩ => ⟨S_, .i32⟩
  | .hbm, ⟨32, _⟩ => ⟨S4194304, .f32⟩
  | .hbm, ⟨33, _⟩ => ⟨S4194304, .i32⟩
  | .hbm, ⟨34, _⟩ => ⟨S_, .i32⟩
  | .hbm, ⟨35, _⟩ => ⟨S4194304, .i32⟩
  | .hbm, ⟨36, _⟩ => ⟨S4194304, .i1⟩
  | .hbm, ⟨37, _⟩ => ⟨S_, .i32⟩
  | .hbm, ⟨38, _⟩ => ⟨S4194304, .i32⟩
  | .hbm, ⟨39, _⟩ => ⟨S4194304, .i32⟩
  | .hbm, ⟨40, _⟩ => ⟨S4194304, .i32⟩
  | .hbm, ⟨41, _⟩ => ⟨S4194304x1, .i32⟩
  | .hbm, ⟨42, _⟩ => ⟨S1, .i32⟩
  | .hbm, ⟨43, _⟩ => ⟨S_, .i32⟩
  | .hbm, ⟨44, _⟩ => ⟨S4194304x1, .i32⟩
  | .hbm, ⟨45, _⟩ => ⟨S4194304x1, .i1⟩
  | .hbm, ⟨46, _⟩ => ⟨S1x1, .i32⟩
  | .hbm, ⟨47, _⟩ => ⟨S4194304x1, .i32⟩
  | .hbm, ⟨48, _⟩ => ⟨S4194304x1, .i1⟩
  | .hbm, ⟨49, _⟩ => ⟨S4194304x1, .i1⟩
  | .hbm, ⟨50, _⟩ => ⟨S_, .i1⟩
  | .hbm, ⟨51, _⟩ => ⟨S4194304, .i1⟩
  | .hbm, ⟨52, _⟩ => ⟨S4194304, .f32⟩
  | .hbm, ⟨53, _⟩ => ⟨S_, .f32⟩
  | .hbm, ⟨54, _⟩ => ⟨S4194304, .f32⟩
  | .hbm, ⟨55, _⟩ => ⟨S4194304, .f32⟩
  | .hbm, ⟨56, _⟩ => ⟨S2048x2048, .f32⟩
  | .hbm, ⟨57, _⟩ => ⟨S2048x2048, .f32⟩
  | .hbm, ⟨58, _⟩ => ⟨S2048x2048x1, .f32⟩
  | .hbm, ⟨59, _⟩ => ⟨S1x1x30, .f32⟩
  | .hbm, ⟨60, _⟩ => ⟨S2048x2048x30, .f32⟩
  | .hbm, ⟨61, _⟩ => ⟨S2048x2048x30, .f32⟩
  | .hbm, ⟨62, _⟩ => ⟨S2048x2048x30, .i1⟩
  | .hbm, ⟨63, _⟩ => ⟨S_, .f32⟩
  | .hbm, ⟨64, _⟩ => ⟨S30, .f32⟩
  | .hbm, ⟨65, _⟩ => ⟨S30, .f32⟩
  | .hbm, ⟨66, _⟩ => ⟨S_, .f32⟩
  | .hbm, ⟨67, _⟩ => ⟨S_, .f32⟩
  | .hbm, ⟨68, _⟩ => ⟨S2048x2048x30, .f32⟩
  | .hbm, ⟨69, _⟩ => ⟨S2048x2048x30, .f32⟩
  | .hbm, ⟨70, _⟩ => ⟨S2048x2048x30, .f32⟩
  | .hbm, ⟨71, _⟩ => ⟨S_, .f32⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | .hbm, ⟨76, _⟩ => ⟨S_, .f32⟩
  | .hbm, ⟨77, _⟩ => ⟨S2048x2048, .f32⟩
  | .hbm, ⟨78, _⟩ => ⟨S2048x2048, .i1⟩
  | .hbm, ⟨79, _⟩ => ⟨S_, .f32⟩
  | .hbm, ⟨80, _⟩ => ⟨S2048x2048, .f32⟩
  | .hbm, ⟨81, _⟩ => ⟨S2048x2048, .i1⟩
  | .hbm, ⟨82, _⟩ => ⟨S_, .f32⟩
  | .hbm, ⟨83, _⟩ => ⟨S_, .f32⟩
  | .hbm, ⟨84, _⟩ => ⟨S2048x2048, .f32⟩
  | .hbm, ⟨85, _⟩ => ⟨S2048x2048, .f32⟩
  | .hbm, ⟨86, _⟩ => ⟨S_, .f32⟩
  | .hbm, ⟨87, _⟩ => ⟨S_, .f32⟩
  | .hbm, ⟨88, _⟩ => ⟨S2048x2048, .f32⟩
  | .hbm, ⟨89, _⟩ => ⟨S2048x2048, .f32⟩
  | .hbm, ⟨90, _⟩ => ⟨S2048x2048, .f32⟩
  | .hbm, ⟨91, _⟩ => ⟨S2048x2048, .f32⟩
  | .hbm, ⟨92, _⟩ => ⟨S2048x2048, .f32⟩
  | .hbm, ⟨93, _⟩ => ⟨S2048x2048, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S2048x2048, .i1⟩
  | .hbm, ⟨98, _⟩ => ⟨S_, .f32⟩
  | .hbm, ⟨99, _⟩ => ⟨S2048x2048, .f32⟩
  | .hbm, ⟨100, _⟩ => ⟨S2048x2048, .f32⟩
  | .hbm, ⟨101, _⟩ => ⟨S_, .f32⟩
  | .hbm, ⟨102, _⟩ => ⟨S2048x2048, .f32⟩
  | .hbm, ⟨103, _⟩ => ⟨S2048x2048, .i1⟩
  | .hbm, ⟨104, _⟩ => ⟨S_, .f32⟩
  | .hbm, ⟨105, _⟩ => ⟨S2048x2048, .f32⟩
  | .hbm, ⟨106, _⟩ => ⟨S2048x2048, .f32⟩
  | .hbm, ⟨107, _⟩ => ⟨S_, .f32⟩
  | .hbm, ⟨108, _⟩ => ⟨S2048x2048, .f32⟩
  | .hbm, ⟨109, _⟩ => ⟨S2048x2048, .i1⟩
  | .hbm, ⟨110, _⟩ => ⟨S_, .f32⟩
  | .hbm, ⟨111, _⟩ => ⟨S2048x2048, .f32⟩
  | .hbm, ⟨112, _⟩ => ⟨S2048x2048, .f32⟩
  | .hbm, ⟨113, _⟩ => ⟨S2048x2048, .f32⟩
  | .hbm, ⟨114, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_cst_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call0_v0 : Ref sig .tc := ⟨.hbm, 29, rfl⟩
abbrev main_call0_cst : Ref sig .tc := ⟨.hbm, 30, rfl⟩
abbrev main_call0_c : Ref sig .tc := ⟨.hbm, 31, rfl⟩
abbrev main_call0_v1_0 : Ref sig .tc := ⟨.hbm, 32, rfl⟩
abbrev main_v21 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_cst : Ref sig .tc := ⟨.hbm, 53, rfl⟩
abbrev main_call1_v14 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_4 : Ref sig .tc := ⟨.hbm, 63, rfl⟩
abbrev main_v30 : Ref sig .tc := ⟨.hbm, 64, rfl⟩
abbrev main_v31 : Ref sig .tc := ⟨.hbm, 65, rfl⟩
abbrev main_cst_5 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v32 : Ref sig .tc := ⟨.hbm, 70, rfl⟩
abbrev main_cst_6 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_v36 : Ref sig .tc := ⟨.hbm, 75, rfl⟩
abbrev main_cst_7 : Ref sig .tc := ⟨.hbm, 76, rfl⟩
abbrev main_v37 : Ref sig .tc := ⟨.hbm, 77, rfl⟩
abbrev main_v38 : Ref sig .tc := ⟨.hbm, 78, rfl⟩
abbrev main_cst_8 : Ref sig .tc := ⟨.hbm, 79, rfl⟩
abbrev main_v39 : Ref sig .tc := ⟨.hbm, 80, rfl⟩
abbrev main_v40 : Ref sig .tc := ⟨.hbm, 81, rfl⟩
abbrev main_cst_9 : Ref sig .tc := ⟨.hbm, 82, rfl⟩
abbrev main_call4_v0 : Ref sig .tc := ⟨.hbm, 83, rfl⟩
abbrev main_call4_v1 : Ref sig .tc := ⟨.hbm, 84, rfl⟩
abbrev main_v41 : Ref sig .tc := ⟨.hbm, 85, rfl⟩
abbrev main_cst_10 : Ref sig .tc := ⟨.hbm, 86, rfl⟩
abbrev main_call5_v0 : Ref sig .tc := ⟨.hbm, 87, rfl⟩
abbrev main_call5_v1 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_11 : Ref sig .tc := ⟨.hbm, 94, rfl⟩
abbrev main_cst_12 : Ref sig .tc := ⟨.hbm, 95, rfl⟩
abbrev main_cst_13 : Ref sig .tc := ⟨.hbm, 96, rfl⟩
abbrev main_call6_v0 : Ref sig .tc := ⟨.hbm, 97, rfl⟩
abbrev main_call6_v1 : Ref sig .tc := ⟨.hbm, 98, rfl⟩
abbrev main_call6_call0_v0 : Ref sig .tc := ⟨.hbm, 99, rfl⟩
abbrev main_call6_v2 : Ref sig .tc := ⟨.hbm, 100, rfl⟩
abbrev main_call6_cst : Ref sig .tc := ⟨.hbm, 101, rfl⟩
abbrev main_call6_v3 : Ref sig .tc := ⟨.hbm, 102, rfl⟩
abbrev main_call6_v4 : Ref sig .tc := ⟨.hbm, 103, rfl⟩
abbrev main_call6_v5 : Ref sig .tc := ⟨.hbm, 104, rfl⟩
abbrev main_call6_call1_v0 : Ref sig .tc := ⟨.hbm, 105, rfl⟩
abbrev main_call6_v6 : Ref sig .tc := ⟨.hbm, 106, rfl⟩
abbrev main_call6_cst_0 : Ref sig .tc := ⟨.hbm, 107, rfl⟩
abbrev main_call6_v7 : Ref sig .tc := ⟨.hbm, 108, rfl⟩
abbrev main_call6_v8 : Ref sig .tc := ⟨.hbm, 109, rfl⟩
abbrev main_call6_v9 : Ref sig .tc := ⟨.hbm, 110, rfl⟩
abbrev main_call6_call2_v0 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩

abbrev nD : Nat := 1
abbrev τ : Topo := Topo.v7x

variable {F : FTy → Type} [FloatOps F]
-- ==== Proof.Consts.lean ====
/- The float words that the two programs and the precondition spell, as the real numbers they denote: the sixteen NF4
   poles, their float16 roundings (the levels), the midpoints of neighbouring poles that a word holds exactly, the
   binades of the float16 rounding and a few plain constants. -/
module

public import proofs.«01_k».proof.Defs
public import Idealize.ShloMosaic.Lib.Pointwise

@[expose] public section

noncomputable section

namespace Cert.Consts

open Idealize.ShloMosaic

/-- The sixteen poles of the NF4 table, in increasing order, as exact reals. -/
def pole : Fin 16 → ℝ :=
  ![-1, -11680177 / 16777216, -550579 / 1048576, -414101 / 1048576,
    -9544269 / 33554432, -12399935 / 67108864, -12220529 / 134217728, 0,
    10681087 / 134217728, 10799843 / 67108864, 16516317 / 67108864, 5669277 / 16777216,
    1848471 / 4194304, 9439147 / 16777216, 12129203 / 16777216, 1]

/-- The sixteen levels: each pole rounded to float16, as an exact real. -/
def level : Fin 16 → ℝ :=
  ![-1, -713 / 1024, -1075 / 2048, -809 / 2048,
    -1165 / 4096, -757 / 4096, -373 / 4096, 0,
    163 / 2048, 659 / 4096, 63 / 256, 173 / 512,
    1805 / 4096, 9 / 16, 1481 / 2048, 1]

/-! ## The poles -/

theorem pole_0 : Ideal.ofBits .f32 0xBF800000#32 = (((-1 : ℝ)) : EReal) := by
  simp [Ideal.ofBits, Ideal.ieee, -EReal.coe_mul]; norm_num

theorem pole_1 : Ideal.ofBits .f32 0xBF3239B1#32 = (((-11680177 / 16777216 : ℝ)) : EReal) := by
  simp [Ideal.ofBits, Ideal.ieee, -EReal.coe_mul]; norm_num

theorem pole_2 : Ideal.ofBits .f32 0xBF066B30#32 = (((-550579 / 1048576 : ℝ)) : EReal) := by
  simp [Ideal.ofBits, Ideal.ieee, -EReal.coe_mul]; norm_num

theorem pole_3 : Ideal.ofBits .f32 0xBECA32A0#32 = (((-414101 / 1048576 : ℝ)) : EReal) := by
  simp [Ideal.ofBits, Ideal.ieee, -EReal.coe_mul]; norm_num

theorem pole_4 : Ideal.ofBits .f32 0xBE91A24D#32 = (((-9544269 / 33554432 : ℝ)) : EReal) := by
  simp [Ideal.ofBits, Ideal.ieee, -EReal.coe_mul]; norm_num

theorem pole_5 : Ideal.ofBits .f32 0xBE3D353F#32 = (((-12399935 / 67108864 : ℝ)) : EReal) := by
  simp [Ideal.ofBits, Ideal.ieee, -EReal.coe_mul]; norm_num

theorem pole_6 : Ideal.ofBits .f32 0xBDBA7871#32 = (((-12220529 / 134217728 : ℝ)) : EReal) := by
  simp [Ideal.ofBits, Ideal.ieee, -EReal.coe_mul]; norm_num

theorem pole_8 : Ideal.ofBits .f32 0x3DA2FAFF#32 = (((10681087 / 134217728 : ℝ)) : EReal) := by
  simp [Ideal.ofBits, Ideal.ieee, -EReal.coe_mul]; norm_num

theorem pole_9 : Ideal.ofBits .f32 0x3E24CAE3#32 = (((10799843 / 67108864 : ℝ)) : EReal) := by
  simp [Ideal.ofBits, Ideal.ieee, -EReal.coe_mul]; norm_num

theorem pole_10 : Ideal.ofBits .f32 0x3E7C04DD#32 = (((16516317 / 67108864 : ℝ)) : EReal) := by
  simp [Ideal.ofBits, Ideal.ieee, -EReal.coe_mul]; norm_num

theorem pole_11 : Ideal.ofBits .f32 0x3EAD033A#32 = (((5669277 / 16777216 : ℝ)) : EReal) := by
  simp [Ideal.ofBits, Ideal.ieee, -EReal.coe_mul]; norm_num

theorem pole_12 : Ideal.ofBits .f32 0x3EE1A4B8#32 = (((1848471 / 4194304 : ℝ)) : EReal) := by
  simp [Ideal.ofBits, Ideal.ieee, -EReal.coe_mul]; norm_num

theorem pole_13 : Ideal.ofBits .f32 0x3F1007AB#32 = (((9439147 / 16777216 : ℝ)) : EReal) := by
  simp [Ideal.ofBits, Ideal.ieee, -EReal.coe_mul]; norm_num

theorem pole_14 : Ideal.ofBits .f32 0x3F3913B3#32 = (((12129203 / 16777216 : ℝ)) : EReal) := by
  simp [Ideal.ofBits, Ideal.ieee, -EReal.coe_mul]; norm_num

theorem pole_15 : Ideal.ofBits .f32 0x3F800000#32 = (((1 : ℝ)) : EReal) := by
  simp [Ideal.ofBits, Ideal.ieee, -EReal.coe_mul]; norm_num

/-! ## The levels that are no poles -/

theorem level_1 : Ideal.ofBits .f32 0xBF324000#32 = (((-713 / 1024 : ℝ)) : EReal) := by
  simp [Ideal.ofBits, Ideal.ieee, -EReal.coe_mul]; norm_num

theorem level_2 : Ideal.ofBits .f32 0xBF066000#32 = (((-1075 / 2048 : ℝ)) : EReal) := by
  simp [Ideal.ofBits, Ideal.ieee, -EReal.coe_mul]; norm_num

theorem level_3 : Ideal.ofBits .f32 0xBECA4000#32 = (((-809 / 2048 : ℝ)) : EReal) := by
  simp [Ideal.ofBits, Ideal.ieee, -EReal.coe_mul]; norm_num

theorem level_4 : Ideal.ofBits .f32 0xBE91A000#32 = (((-1165 / 4096 : ℝ)) : EReal) := by
  simp [Ideal.ofBits, Ideal.ieee, -EReal.coe_mul]; norm_num

theorem level_5 : Ideal.ofBits .f32 0xBE3D4000#32 = (((-757 / 4096 : ℝ)) : EReal) := by
  simp [Ideal.ofBits, Ideal.ieee, -EReal.coe_mul]; norm_num

theorem level_6 : Ideal.ofBits .f32 0xBDBA8000#32 = (((-373 / 4096 : ℝ)) : EReal) := by
  simp [Ideal.ofBits, Ideal.ieee, -EReal.coe_mul]; norm_num

theorem level_8 : Ideal.ofBits .f32 0x3DA30000#32 = (((163 / 2048 : ℝ)) : EReal) := by
  simp [Ideal.ofBits, Ideal.ieee, -EReal.coe_mul]; norm_num

theorem level_9 : Ideal.ofBits .f32 0x3E24C000#32 = (((659 / 4096 : ℝ)) : EReal) := by
  simp [Ideal.ofBits, Ideal.ieee, -EReal.coe_mul]; norm_num

theorem level_10 : Ideal.ofBits .f32 0x3E7C0000#32 = (((63 / 256 : ℝ)) : EReal) := by
  simp [Ideal.ofBits, Ideal.ieee, -EReal.coe_mul]; norm_num

theorem level_11 : Ideal.ofBits .f32 0x3EAD0000#32 = (((173 / 512 : ℝ)) : EReal) := by
  simp [Ideal.ofBits, Ideal.ieee, -EReal.coe_mul]; norm_num

theorem level_12 : Ideal.ofBits .f32 0x3EE1A000#32 = (((1805 / 4096 : ℝ)) : EReal) := by
  simp [Ideal.ofBits, Ideal.ieee, -EReal.coe_mul]; norm_num

theorem level_13 : Ideal.ofBits .f32 0x3F100000#32 = (((9 / 16 : ℝ)) : EReal) := by
  simp [Ideal.ofBits, Ideal.ieee, -EReal.coe_mul]; norm_num

theorem level_14 : Ideal.ofBits .f32 0x3F392000#32 = (((1481 / 2048 : ℝ)) : EReal) := by
  simp [Ideal.ofBits, Ideal.ieee, -EReal.coe_mul]; norm_num

/-! ## The midpoints that a word holds exactly -/

theorem mid_2 : Ideal.ofBits .f32 0xBEEB8480#32 = (((-120585 / 262144 : ℝ)) : EReal) := by
  simp [Ideal.ofBits, Ideal.ieee, -EReal.coe_mul]; norm_num

theorem mid_6 : Ideal.ofBits .f32 0xBD3A7871#32 = (((-12220529 / 268435456 : ℝ)) : EReal) := by
  simp [Ideal.ofBits, Ideal.ieee, -EReal.coe_mul]; norm_num

theorem mid_7 : Ideal.ofBits .f32 0x3D22FAFF#32 = (((10681087 / 268435456 : ℝ)) : EReal) := by
  simp [Ideal.ofBits, Ideal.ieee, -EReal.coe_mul]; norm_num

theorem mid_9 : Ideal.ofBits .f32 0x3E5067E0#32 = (((426815 / 2097152 : ℝ)) : EReal) := by
  simp [Ideal.ofBits, Ideal.ieee, -EReal.coe_mul]; norm_num

theorem mid_11 : Ideal.ofBits .f32 0x3EC753F9#32 = (((13063161 / 33554432 : ℝ)) : EReal) := by
  simp [Ideal.ofBits, Ideal.ieee, -EReal.coe_mul]; norm_num

theorem mid_13 : Ideal.ofBits .f32 0x3F248DAF#32 = (((10784175 / 16777216 : ℝ)) : EReal) := by
  simp [Ideal.ofBits, Ideal.ieee, -EReal.coe_mul]; norm_num

/-! ## Plain constants -/

theorem half : Ideal.ofBits .f32 0x3F000000#32 = (((1 / 2 : ℝ)) : EReal) := by
  simp [Ideal.ofBits, Ideal.ieee, -EReal.coe_mul]; norm_num

theorem two : Ideal.ofBits .f32 0x40000000#32 = (((2 : ℝ)) : EReal) := by
  simp [Ideal.ofBits, Ideal.ieee, -EReal.coe_mul]; norm_num

theorem ulp : Ideal.ofBits .f32 0x3A800000#32 = (((1 / 1024 : ℝ)) : EReal) := by
  simp [Ideal.ofBits, Ideal.ieee, -EReal.coe_mul]; norm_num

theorem tiny : Ideal.ofBits .f32 0x33800000#32 = (((1 / 16777216 : ℝ)) : EReal) := by
  simp [Ideal.ofBits, Ideal.ieee, -EReal.coe_mul]; norm_num

theorem over : Ideal.ofBits .f32 0x477FF000#32 = (((65520 : ℝ)) : EReal) := by
  simp [Ideal.ofBits, Ideal.ieee, -EReal.coe_mul]; norm_num

theorem under : Ideal.ofBits .f32 0xC77FF000#32 = (((-65520 : ℝ)) : EReal) := by
  simp [Ideal.ofBits, Ideal.ieee, -EReal.coe_mul]; norm_num

/-- The word of plus infinity. -/
theorem posInf : Ideal.ofBits .f32 0x7F800000#32 = ⊤ := by simp [Ideal.ofBits, Ideal.ieee]

/-- The word of minus infinity. -/
theorem negInf : Ideal.ofBits .f32 0xFF800000#32 = ⊥ := by simp [Ideal.ofBits, Ideal.ieee]

/-! ## The tables -/

/-- The binades of float16: entry `k` is `2 ^ (k - 14)`. -/
theorem binade (k : Fin 30) :
    Ideal.ofBits .f32 (Cert.ReferenceIdeal.lit0 k) = (((2 : ℝ) ^ (k : ℕ) / 16384 : ℝ) : EReal) := by
  fin_cases k <;> (simp [Cert.ReferenceIdeal.lit0, Ideal.ofBits, Ideal.ieee, -EReal.coe_mul]; try norm_num)

/-- The precondition's table holds the poles. -/
theorem table (k : Fin 16) :
    Ideal.ofBits .f32 (Cert.Pre_nf4_table_finite_weight.lit0 k) = ((pole k : ℝ) : EReal) := by
  fin_cases k
  · exact pole_0
  · exact pole_1
  · exact pole_2
  · exact pole_3
  · exact pole_4
  · exact pole_5
  · exact pole_6
  · exact Ideal.ofBits_zero_f32.trans EReal.coe_zero.symm
  · exact pole_8
  · exact pole_9
  · exact pole_10
  · exact pole_11
  · exact pole_12
  · exact pole_13
  · exact pole_14
  · exact pole_15

end Cert.Consts

end
-- ==== Proof.Nearest.lean ====
/- Quantising one number to the NF4 table over the extended reals: the place of the nearest pole (`rank`, found by
   comparing with the midpoints of neighbouring poles), why it is the first place at which the distance is least, and
   the float16 rounding that takes each pole to its level. -/
module

public import proofs.«01_k».proof.Proof.Consts

@[expose] public section

noncomputable section

namespace Cert.Nearest

open Idealize.ShloMosaic Cert.Consts

/-- The midpoint between pole `i` and the next one. -/
def mid (i : Fin 15) : EReal := (((pole i.castSucc + pole i.succ) / 2 : ℝ) : EReal)

/-- The place of the pole nearest to `w` among poles `0 … n`, the lower one of two at the same distance: the greatest
    place that is reached over a midpoint below `w`. -/
def rankUpto (w : EReal) : (n : ℕ) → n < 16 → Fin 16
  | 0, _ => 0
  | n + 1, h => if mid ⟨n, by omega⟩ < w then ⟨n + 1, h⟩ else rankUpto w n (by omega)

/-- The place of the pole nearest to `w`. -/
def rank (w : EReal) : Fin 16 := rankUpto w 15 (by omega)

/-- The distance from `w` to pole `i`. -/
def dist (w : EReal) (i : Fin 16) : EReal := max (w - ((pole i : ℝ) : EReal)) (-(w - ((pole i : ℝ) : EReal)))

/-- The poles increase. -/
theorem pole_strictMono : StrictMono pole := by
  rw [Fin.strictMono_iff_lt_succ]
  intro i
  fin_cases i <;> simp [pole] <;> norm_num

/-- Below `w` lies the midpoint just under the place found. -/
theorem rankUpto_below (w : EReal) (i : Fin 15) :
    ∀ (n : ℕ) (hn : n < 16), i.succ = rankUpto w n hn → mid i < w
  | 0, _, h => absurd h (Fin.succ_ne_zero i)
  | n + 1, hn, h => by
    rw [rankUpto] at h
    split_ifs at h with hc
    · have e' : i = ⟨n, Nat.lt_of_succ_lt_succ hn⟩ := Fin.ext (by simpa using congrArg Fin.val h)
      rw [e']; exact hc
    · exact rankUpto_below w i n _ h

/-- The midpoint just over the place found is not below `w`. -/
theorem rankUpto_above (w : EReal) (i : Fin 15) :
    ∀ (n : ℕ) (hn : n < 16), i.val < n → i.castSucc = rankUpto w n hn → w ≤ mid i
  | 0, _, h, _ => absurd h (Nat.not_lt_zero _)
  | n + 1, hn, hi, h => by
    rw [rankUpto] at h
    split_ifs at h with hc
    · have e : i.val = n + 1 := by simpa using congrArg Fin.val h
      omega
    · by_cases e : i.val = n
      · have e' : i = ⟨n, Nat.lt_of_succ_lt_succ hn⟩ := Fin.ext e
        rw [e']; exact not_lt.mp hc
      · exact rankUpto_above w i n _ (by omega) h

/-- Below `w` lies the midpoint just under `rank w`. -/
theorem rank_below (w : EReal) (i : Fin 15) (h : i.succ = rank w) : mid i < w := rankUpto_below w i 15 _ h

/-- The midpoint just over `rank w` is not below `w`. -/
theorem rank_above (w : EReal) (i : Fin 15) (h : i.castSucc = rank w) : w ≤ mid i := rankUpto_above w i 15 _ i.isLt h

/-- From minus infinity the place is the first. -/
theorem rankUpto_bot : ∀ (n : ℕ) (hn : n < 16), rankUpto ⊥ n hn = 0
  | 0, _ => rfl
  | n + 1, hn => by rw [rankUpto, if_neg not_lt_bot, rankUpto_bot n]

/-- The distance from a real. -/
theorem dist_coe (t : ℝ) (i : Fin 16) : dist (t : EReal) i = ((|t - pole i| : ℝ) : EReal) := by
  rw [dist, ← EReal.coe_sub, ← EReal.coe_neg, ← EReal.coe_strictMono.monotone.map_max]; rfl

/-- From minus infinity every distance is infinite. -/
theorem dist_bot (i : Fin 16) : dist ⊥ i = ⊤ := by simp [dist]

/-- Of two reals `a < b`, the upper one is strictly nearer to `t` above their midpoint. -/
theorem upper_nearer {a b t : ℝ} (hab : a < b) (h : (a + b) / 2 < t) : |t - b| < |t - a| := by
  rw [← sq_lt_sq]; nlinarith

/-- Of two reals `a < b`, the lower one is at least as near to `t` up to their midpoint. -/
theorem lower_nearer {a b t : ℝ} (hab : a < b) (h : t ≤ (a + b) / 2) : |t - a| ≤ |t - b| := by
  rw [← sq_le_sq]; nlinarith

/-- Places before `rank w` are strictly further away. -/
theorem before_rank (w : EReal) (hw : w ≠ ⊤) (i : Fin 16) (hi : i < rank w) : dist w (rank w) < dist w i := by
  have hpos : rank w ≠ 0 := fun e => by rw [e] at hi; exact absurd hi (Fin.not_lt_zero i)
  obtain ⟨k, hk⟩ := Fin.exists_succ_eq.mpr hpos
  have hb := rank_below w k hk
  induction w using EReal.rec with
  | bot => exact absurd hb not_lt_bot
  | top => exact absurd rfl hw
  | coe t =>
    rw [dist_coe, dist_coe, EReal.coe_lt_coe_iff]
    refine upper_nearer (pole_strictMono hi) ?_
    rw [mid, EReal.coe_lt_coe_iff, hk] at hb
    have hle : pole i ≤ pole k.castSucc := pole_strictMono.monotone (by
      rw [← hk] at hi; exact Fin.le_castSucc_iff.mpr hi)
    linarith

/-- Places after `rank w` are no nearer. -/
theorem after_rank (w : EReal) (hw : w ≠ ⊤) (i : Fin 16) (hi : rank w < i) : dist w (rank w) ≤ dist w i := by
  have hne : rank w ≠ Fin.last 15 := fun e => by rw [e] at hi; exact absurd hi (not_lt.mpr (Fin.le_last i))
  obtain ⟨k, hk⟩ := Fin.exists_castSucc_eq.mpr hne
  have hb := rank_above w k hk
  induction w using EReal.rec with
  | bot => rw [dist_bot, dist_bot]
  | top => exact absurd rfl hw
  | coe t =>
    rw [dist_coe, dist_coe, EReal.coe_le_coe_iff]
    refine lower_nearer (pole_strictMono hi) ?_
    rw [mid, EReal.coe_le_coe_iff, hk] at hb
    have hle : pole k.succ ≤ pole i := pole_strictMono.monotone (by
      rw [← hk] at hi; exact Fin.castSucc_lt_iff_succ_le.mp hi)
    linarith

/-- The least distance is finite, or the place is the first. -/
theorem dist_rank_lt_top (w : EReal) (hw : w ≠ ⊤) : dist w (rank w) < ⊤ ∨ (rank w = 0 ∧ dist w (rank w) = ⊤) := by
  induction w using EReal.rec with
  | bot => exact .inr ⟨rankUpto_bot 15 _, dist_bot _⟩
  | top => exact absurd rfl hw
  | coe t => exact .inl (by rw [dist_coe]; exact EReal.coe_lt_top _)

/-- The upper of poles 12 and 13 is strictly nearer to `w` exactly above their midpoint. -/
theorem mid_twelve (w : EReal) (hw : w ≠ ⊤) :
    ((pole 13 : ℝ) : EReal) - w < w - ((pole 12 : ℝ) : EReal) ↔ mid 12 < w := by
  induction w using EReal.rec with
  | bot => simp
  | top => exact absurd rfl hw
  | coe t =>
    rw [← EReal.coe_sub, ← EReal.coe_sub, EReal.coe_lt_coe_iff, mid, EReal.coe_lt_coe_iff]
    show _ ↔ (pole 12 + pole 13) / 2 < t
    constructor <;> intro h <;> linarith

/-! ## Rounding to float16 -/

/-- The spacing of the float16 numbers around `v`. -/
def spacing (v : EReal) : EReal :=
  Finset.univ.fold max ⊥ fun k : Fin 30 =>
    if (((2 : ℝ) ^ (k : ℕ) / 16384 : ℝ) : EReal) ≤ max v (-v)
    then (((2 : ℝ) ^ (k : ℕ) / 16384 : ℝ) : EReal) * (((1 / 1024 : ℝ)) : EReal) else ((1 / 16777216 : ℝ) : EReal)

/-- `v` rounded to float16: to infinity past the range, else to the nearest multiple of the spacing, ties to even. -/
def round16 (v : EReal) : EReal :=
  if ((65520 : ℝ) : EReal) ≤ v then ⊤ else if v ≤ ((-65520 : ℝ) : EReal) then ⊥
  else Ideal.liftRound Ideal.roundHalfEven (Ideal.div v (spacing v)) * spacing v

/-- The spacing at a real whose magnitude lies in binade `e`. -/
theorem spacing_of (v : ℝ) (e : Fin 30) (h₁ : (2 : ℝ) ^ (e : ℕ) / 16384 ≤ |v|) (h₂ : |v| < (2 : ℝ) ^ ((e : ℕ) + 1) / 16384) :
    spacing (v : EReal) = (((2 : ℝ) ^ (e : ℕ) / 16384 / 1024 : ℝ) : EReal) := by
  have hm : max (v : EReal) (-(v : EReal)) = ((|v| : ℝ) : EReal) := by
    rw [← EReal.coe_neg, ← EReal.coe_strictMono.monotone.map_max]; rfl
  unfold spacing
  simp only [hm, EReal.coe_le_coe_iff, ← EReal.coe_mul]
  refine le_antisymm (Finset.fold_max_le _ |>.mpr ⟨bot_le, fun k _ => ?_⟩)
    (Finset.le_fold_max _ |>.mpr (.inr ⟨e, Finset.mem_univ e, ?_⟩))
  · split_ifs with hk
    · rw [EReal.coe_le_coe_iff]
      have hke : (k : ℕ) ≤ e := by
        by_contra hc
        have := pow_le_pow_right₀ (one_le_two : (1 : ℝ) ≤ 2) (show (e : ℕ) + 1 ≤ k by omega)
        have := lt_of_le_of_lt hk h₂
        linarith
      have := pow_le_pow_right₀ (one_le_two : (1 : ℝ) ≤ 2) hke
      linarith
    · rw [EReal.coe_le_coe_iff]
      have := one_le_pow₀ (one_le_two : (1 : ℝ) ≤ 2) (n := (e : ℕ))
      linarith
  · rw [if_pos h₁, EReal.coe_le_coe_iff]; linarith

/-- The spacing at zero is the smallest. -/
theorem spacing_zero : spacing ((0 : ℝ) : EReal) = ((1 / 16777216 : ℝ) : EReal) := by
  unfold spacing
  have hn : ∀ k : Fin 30, ¬ ((((2 : ℝ) ^ (k : ℕ) / 16384 : ℝ) : EReal) ≤ max ((0 : ℝ) : EReal) (-((0 : ℝ) : EReal))) := by
    intro k
    rw [← EReal.coe_neg, ← EReal.coe_strictMono.monotone.map_max, EReal.coe_le_coe_iff]
    have : (0 : ℝ) < 2 ^ (k : ℕ) := by positivity
    simp [this]
  simp only [hn, if_false]
  exact le_antisymm (Finset.fold_max_le _ |>.mpr ⟨bot_le, fun k _ => le_rfl⟩)
    (Finset.le_fold_max _ |>.mpr (.inr ⟨0, Finset.mem_univ _, le_rfl⟩))

/-- A real strictly within a half of an integer rounds to it. -/
theorem roundHalfEven_of (r : ℝ) (n : ℤ) (h₁ : (n : ℝ) - 1 / 2 < r) (h₂ : r < n + 1 / 2) : Ideal.roundHalfEven r = n := by
  unfold Ideal.roundHalfEven
  by_cases h : (n : ℝ) ≤ r
  · have hf : ⌊r⌋ = n := Int.floor_eq_iff.mpr ⟨h, by linarith⟩
    simp only [hf]
    rw [if_pos (by linarith)]
  · have hf : ⌊r⌋ = n - 1 := Int.floor_eq_iff.mpr ⟨by push_cast; linarith, by push_cast; linarith⟩
    simp only [hf]
    push_cast
    rw [if_neg (by linarith), if_pos (by linarith)]; ring

/-- A real in the range of float16, at spacing `s`, rounds to `n` spacings. -/
theorem round16_of (v s : ℝ) (n : ℤ) (hs : spacing (v : EReal) = (s : EReal)) (hs₀ : 0 < s) (hv₁ : -65520 < v) (hv₂ : v < 65520)
    (h₁ : ((n : ℝ) - 1 / 2) * s < v) (h₂ : v < (n + 1 / 2) * s) : round16 (v : EReal) = ((n * s : ℝ) : EReal) := by
  unfold round16
  rw [if_neg (by rw [EReal.coe_le_coe_iff]; linarith), if_neg (by rw [EReal.coe_le_coe_iff]; linarith), hs, Ideal.div,
    if_neg (by rw [← EReal.coe_zero]; exact fun e => hs₀.ne' (EReal.coe_injective e)), ← EReal.coe_inv, ← EReal.coe_mul]
  show ((Ideal.roundHalfEven (v * s⁻¹) : ℝ) : EReal) * _ = _
  rw [roundHalfEven_of (v * s⁻¹) n (by rw [← div_eq_mul_inv, lt_div_iff₀ hs₀]; exact h₁)
    (by rw [← div_eq_mul_inv, div_lt_iff₀ hs₀]; exact h₂), ← EReal.coe_mul]

/-- Each pole rounds to its level. -/
theorem round16_pole (i : Fin 16) : round16 ((pole i : ℝ) : EReal) = ((level i : ℝ) : EReal) := by
  fin_cases i
  · refine (round16_of (-1) (2 ^ 14 / 16384 / 1024) (-1024) (spacing_of _ 14 (by rw [abs_of_neg] <;> norm_num) (by rw [abs_of_neg] <;> norm_num))
      (by norm_num) (by norm_num) (by norm_num) (by norm_num) (by norm_num)).trans (congrArg _ ?_)
    simp [level]; norm_num
  · refine (round16_of (-11680177 / 16777216) (2 ^ 13 / 16384 / 1024) (-1426) (spacing_of _ 13 (by rw [abs_of_neg] <;> norm_num) (by rw [abs_of_neg] <;> norm_num))
      (by norm_num) (by norm_num) (by norm_num) (by norm_num) (by norm_num)).trans (congrArg _ ?_)
    simp [level]; norm_num
  · refine (round16_of (-550579 / 1048576) (2 ^ 13 / 16384 / 1024) (-1075) (spacing_of _ 13 (by rw [abs_of_neg] <;> norm_num) (by rw [abs_of_neg] <;> norm_num))
      (by norm_num) (by norm_num) (by norm_num) (by norm_num) (by norm_num)).trans (congrArg _ ?_)
    simp [level]; norm_num
  · refine (round16_of (-414101 / 1048576) (2 ^ 12 / 16384 / 1024) (-1618) (spacing_of _ 12 (by rw [abs_of_neg] <;> norm_num) (by rw [abs_of_neg] <;> norm_num))
      (by norm_num) (by norm_num) (by norm_num) (by norm_num) (by norm_num)).trans (congrArg _ ?_)
    simp [level]; norm_num
  · refine (round16_of (-9544269 / 33554432) (2 ^ 12 / 16384 / 1024) (-1165) (spacing_of _ 12 (by rw [abs_of_neg] <;> norm_num) (by rw [abs_of_neg] <;> norm_num))
      (by norm_num) (by norm_num) (by norm_num) (by norm_num) (by norm_num)).trans (congrArg _ ?_)
    simp [level]; norm_num
  · refine (round16_of (-12399935 / 67108864) (2 ^ 11 / 16384 / 1024) (-1514) (spacing_of _ 11 (by rw [abs_of_neg] <;> norm_num) (by rw [abs_of_neg] <;> norm_num))
      (by norm_num) (by norm_num) (by norm_num) (by norm_num) (by norm_num)).trans (congrArg _ ?_)
    simp [level]; norm_num
  · refine (round16_of (-12220529 / 134217728) (2 ^ 10 / 16384 / 1024) (-1492) (spacing_of _ 10 (by rw [abs_of_neg] <;> norm_num) (by rw [abs_of_neg] <;> norm_num))
      (by norm_num) (by norm_num) (by norm_num) (by norm_num) (by norm_num)).trans (congrArg _ ?_)
    simp [level]; norm_num
  · refine (round16_of 0 (1 / 16777216) 0 spacing_zero (by norm_num) (by norm_num) (by norm_num) (by norm_num) (by norm_num)).trans ?_
    simp [level]
  · refine (round16_of (10681087 / 134217728) (2 ^ 10 / 16384 / 1024) (1304) (spacing_of _ 10 (by rw [abs_of_pos] <;> norm_num) (by rw [abs_of_pos] <;> norm_num))
      (by norm_num) (by norm_num) (by norm_num) (by norm_num) (by norm_num)).trans (congrArg _ ?_)
    simp [level]; norm_num
  · refine (round16_of (10799843 / 67108864) (2 ^ 11 / 16384 / 1024) (1318) (spacing_of _ 11 (by rw [abs_of_pos] <;> norm_num) (by rw [abs_of_pos] <;> norm_num))
      (by norm_num) (by norm_num) (by norm_num) (by norm_num) (by norm_num)).trans (congrArg _ ?_)
    simp [level]; norm_num
  · refine (round16_of (16516317 / 67108864) (2 ^ 11 / 16384 / 1024) (2016) (spacing_of _ 11 (by rw [abs_of_pos] <;> norm_num) (by rw [abs_of_pos] <;> norm_num))
      (by norm_num) (by norm_num) (by norm_num) (by norm_num) (by norm_num)).trans (congrArg _ ?_)
    simp [level]; norm_num
  · refine (round16_of (5669277 / 16777216) (2 ^ 12 / 16384 / 1024) (1384) (spacing_of _ 12 (by rw [abs_of_pos] <;> norm_num) (by rw [abs_of_pos] <;> norm_num))
      (by norm_num) (by norm_num) (by norm_num) (by norm_num) (by norm_num)).trans (congrArg _ ?_)
    simp [level]; norm_num
  · refine (round16_of (1848471 / 4194304) (2 ^ 12 / 16384 / 1024) (1805) (spacing_of _ 12 (by rw [abs_of_pos] <;> norm_num) (by rw [abs_of_pos] <;> norm_num))
      (by norm_num) (by norm_num) (by norm_num) (by norm_num) (by norm_num)).trans (congrArg _ ?_)
    simp [level]; norm_num
  · refine (round16_of (9439147 / 16777216) (2 ^ 13 / 16384 / 1024) (1152) (spacing_of _ 13 (by rw [abs_of_pos] <;> norm_num) (by rw [abs_of_pos] <;> norm_num))
      (by norm_num) (by norm_num) (by norm_num) (by norm_num) (by norm_num)).trans (congrArg _ ?_)
    simp [level]; norm_num
  · refine (round16_of (12129203 / 16777216) (2 ^ 13 / 16384 / 1024) (1481) (spacing_of _ 13 (by rw [abs_of_pos] <;> norm_num) (by rw [abs_of_pos] <;> norm_num))
      (by norm_num) (by norm_num) (by norm_num) (by norm_num) (by norm_num)).trans (congrArg _ ?_)
    simp [level]; norm_num
  · refine (round16_of 1 (2 ^ 14 / 16384 / 1024) (1024) (spacing_of _ 14 (by rw [abs_of_pos] <;> norm_num) (by rw [abs_of_pos] <;> norm_num))
      (by norm_num) (by norm_num) (by norm_num) (by norm_num) (by norm_num)).trans (congrArg _ ?_)
    simp [level]; norm_num

end Cert.Nearest

end
-- ==== Proof.Spec.lean ====
/- What both programs compute, row by row of the weight, over the extended reals: each row is brought to the range of
   the NF4 table, quantised to the nearest pole's level and brought back. -/
module

public import proofs.«01_k».proof.Proof.Nearest

@[expose] public section

noncomputable section

namespace Cert.Spec

open Idealize.ShloMosaic Cert.Consts Cert.Nearest

/-- The greatest entry of a row. -/
def top (w : Fin 2048 → EReal) : EReal := Finset.univ.fold max ⊥ w

/-- The least entry of a row. -/
def bottom (w : Fin 2048 → EReal) : EReal := Finset.univ.fold min ⊤ w

/-- The middle of a row's range. -/
def offset (w : Fin 2048 → EReal) : EReal := (top w + bottom w) * ((1 / 2 : ℝ) : EReal)

/-- Half the width of a row's range. -/
def range (w : Fin 2048 → EReal) : EReal := (top w - bottom w) * ((1 / 2 : ℝ) : EReal)

/-- An entry of a row, moved and scaled so that the row spans from minus one to one. -/
def scaled (w : Fin 2048 → EReal) (k : Fin 2048) : EReal := Ideal.div (w k - offset w) (range w)

/-- An entry of a row, quantised: the level of the pole nearest to its scaled value, scaled and moved back. -/
def quant (w : Fin 2048 → EReal) (k : Fin 2048) : EReal :=
  ((level (rank (scaled w k)) : ℝ) : EReal) * range w + offset w

/-- The product of a row of the input with a quantised row of the weight. -/
def prod (x w : Fin 2048 → EReal) : EReal := ∑ k : Fin 2048, x k * quant w k

/-- Dividing by two is multiplying by a half. -/
theorem div_two (a : EReal) : Ideal.div a ((2 : ℝ) : EReal) = a * ((1 / 2 : ℝ) : EReal) := by
  rw [Ideal.div, if_neg (by rw [← EReal.coe_zero]; exact fun e => two_ne_zero (EReal.coe_injective e)), ← EReal.coe_inv,
    one_div]

/-! ## Rows of reals -/

/-- The greatest entry of a row of reals is one of them, and is above all. -/
theorem top_coe (w : Fin 2048 → ℝ) : ∃ a : ℝ, top (fun k => (w k : EReal)) = (a : EReal) ∧ ∀ k, w k ≤ a := by
  obtain ⟨j, -, hj⟩ := Finset.exists_max_image Finset.univ w ⟨0, Finset.mem_univ _⟩
  refine ⟨w j, le_antisymm (Finset.fold_max_le _ |>.mpr ⟨bot_le, fun k hk => EReal.coe_le_coe_iff.mpr (hj k hk)⟩)
    (Finset.le_fold_max _ |>.mpr (.inr ⟨j, Finset.mem_univ _, le_rfl⟩)), fun k => hj k (Finset.mem_univ _)⟩

/-- The least entry of a row of reals is one of them, and is below all. -/
theorem bottom_coe (w : Fin 2048 → ℝ) : ∃ a : ℝ, bottom (fun k => (w k : EReal)) = (a : EReal) ∧ ∀ k, a ≤ w k := by
  obtain ⟨j, -, hj⟩ := Finset.exists_min_image Finset.univ w ⟨0, Finset.mem_univ _⟩
  refine ⟨w j, le_antisymm (Finset.fold_min_le _ |>.mpr (.inr ⟨j, Finset.mem_univ _, le_rfl⟩))
    (Finset.le_fold_min _ |>.mpr ⟨le_top, fun k hk => EReal.coe_le_coe_iff.mpr (hj k hk)⟩), fun k => hj k (Finset.mem_univ _)⟩

/-- Of a row of reals the offset, the range and every quantised entry are real, and no scaled entry is plus infinity:
    where the range is zero every entry is the offset. -/
theorem row_coe (w : Fin 2048 → EReal) (hw : ∀ k, ∃ r : ℝ, w k = (r : EReal)) :
    (∃ o : ℝ, offset w = (o : EReal)) ∧ (∃ r : ℝ, range w = (r : EReal)) ∧ ∀ k, scaled w k ≠ ⊤ := by
  choose v hv using hw
  obtain rfl : w = fun k => (v k : EReal) := funext hv
  obtain ⟨a, ha, ha'⟩ := top_coe v
  obtain ⟨b, hb, hb'⟩ := bottom_coe v
  have ho : offset (fun k => (v k : EReal)) = (((a + b) * (1 / 2) : ℝ) : EReal) := by
    rw [offset, ha, hb, ← EReal.coe_add, ← EReal.coe_mul]
  have hr : range (fun k => (v k : EReal)) = (((a - b) * (1 / 2) : ℝ) : EReal) := by
    rw [range, ha, hb, ← EReal.coe_sub, ← EReal.coe_mul]
  refine ⟨⟨_, ho⟩, ⟨_, hr⟩, fun k => ?_⟩
  rw [scaled, ho, hr, ← EReal.coe_sub, Ideal.div]
  split_ifs with h0 hp
  · exfalso
    have e : (a - b) * (1 / 2) = 0 := EReal.coe_injective (h0.trans EReal.coe_zero.symm)
    rw [← EReal.coe_zero, EReal.coe_lt_coe_iff] at hp
    have := ha' k; have := hb' k
    linarith
  · exact bot_ne_top
  · rw [← EReal.coe_inv, ← EReal.coe_mul]; exact EReal.coe_ne_top _

/-- Of a row of reals every quantised entry is real. -/
theorem quant_coe (w : Fin 2048 → EReal) (hw : ∀ k, ∃ r : ℝ, w k = (r : EReal)) (k : Fin 2048) :
    ∃ r : ℝ, quant w k = (r : EReal) := by
  obtain ⟨⟨o, ho⟩, ⟨r, hr⟩, -⟩ := row_coe w hw
  exact ⟨level (rank (scaled w k)) * r + o, by rw [quant, ho, hr, ← EReal.coe_mul, ← EReal.coe_add]⟩

end Cert.Spec

end
-- ==== Proof.Block.lean ====
/- What one block of the kernel computes, over any block: the select chain at an entry is the level of the pole nearest to
   it, so the quantised block is `Spec.quant` of each of its rows. -/
module

public import proofs.«01_k».proof.Proof.Gen.KernelIdeal.Frame
public import proofs.«01_k».proof.Proof.Spec
public import Idealize.ShloMosaic.Lib.Pointwise

@[expose] public section

set_option maxRecDepth 16384

noncomputable section

namespace Cert.Block

open Idealize.ShloMosaic Cert.KernelIdeal Cert.KernelIdeal.Gen Cert.Nearest Cert.Consts

/-! ## The constants of the chain -/

/-- A midpoint from its value. -/
theorem mid_of (i : Fin 15) (x : EReal) (q : ℝ) (hx : x = (q : EReal)) (h : q = (pole i.castSucc + pole i.succ) / 2) :
    x = mid i := by rw [hx, mid, h]

theorem mid_0 : Named.named (F := Ideal) (φ := .f32) Cert.KernelIdeal.κ "mid0" 0xBF591CD8#32 = mid 0 :=
  mid_of 0 _ (-28457393 / 33554432) (by simp [Named.named, Cert.KernelIdeal.κ]) (by simp [pole]; norm_num)

theorem mid_1 : Named.named (F := Ideal) (φ := .f32) Cert.KernelIdeal.κ "mid1" 0xBF1C5270#32 = mid 1 :=
  mid_of 1 _ (-20489441 / 33554432) (by simp [Named.named, Cert.KernelIdeal.κ]) (by simp [pole]; norm_num)

theorem mid_2 : Ideal.ofBits .f32 0xBEEB8480#32 = mid 2 :=
  mid_of 2 _ (-120585 / 262144) Consts.mid_2 (by simp [pole]; norm_num)

theorem mid_3 : Named.named (F := Ideal) (φ := .f32) Cert.KernelIdeal.κ "mid3" 0xBEADEA76#32 = mid 3 :=
  mid_of 3 _ (-22795501 / 67108864) (by simp [Named.named, Cert.KernelIdeal.κ]) (by simp [pole]; norm_num)

theorem mid_4 : Named.named (F := Ideal) (φ := .f32) Cert.KernelIdeal.κ "mid4" 0xBE703CEC#32 = mid 4 :=
  mid_of 4 _ (-31488473 / 134217728) (by simp [Named.named, Cert.KernelIdeal.κ]) (by simp [pole]; norm_num)

theorem mid_5 : Named.named (F := Ideal) (φ := .f32) Cert.KernelIdeal.κ "mid5" 0xBE0D38BC#32 = mid 5 :=
  mid_of 5 _ (-37020399 / 268435456) (by simp [Named.named, Cert.KernelIdeal.κ]) (by simp [pole]; norm_num)

theorem mid_6 : Ideal.ofBits .f32 0xBD3A7871#32 = mid 6 :=
  mid_of 6 _ (-12220529 / 268435456) Consts.mid_6 (by simp [pole]; norm_num)

theorem mid_7 : Ideal.ofBits .f32 0x3D22FAFF#32 = mid 7 :=
  mid_of 7 _ (10681087 / 268435456) Consts.mid_7 (by simp [pole]; norm_num)

theorem mid_8 : Named.named (F := Ideal) (φ := .f32) Cert.KernelIdeal.κ "mid8" 0x3DF64862#32 = mid 8 :=
  mid_of 8 _ (32280773 / 268435456) (by simp [Named.named, Cert.KernelIdeal.κ]) (by simp [pole]; norm_num)

theorem mid_9 : Ideal.ofBits .f32 0x3E5067E0#32 = mid 9 :=
  mid_of 9 _ (426815 / 2097152) Consts.mid_9 (by simp [pole]; norm_num)

theorem mid_10 : Named.named (F := Ideal) (φ := .f32) Cert.KernelIdeal.κ "mid10" 0x3E9582D4#32 = mid 10 :=
  mid_of 10 _ (39193425 / 134217728) (by simp [Named.named, Cert.KernelIdeal.κ]) (by simp [pole]; norm_num)

theorem mid_11 : Ideal.ofBits .f32 0x3EC753F9#32 = mid 11 :=
  mid_of 11 _ (13063161 / 33554432) Consts.mid_11 (by simp [pole]; norm_num)

theorem mid_13 : Ideal.ofBits .f32 0x3F248DAF#32 = mid 13 :=
  mid_of 13 _ (10784175 / 16777216) Consts.mid_13 (by simp [pole]; norm_num)

theorem mid_14 : Named.named (F := Ideal) (φ := .f32) Cert.KernelIdeal.κ "mid14" 0x3F5C89DA#32 = mid 14 :=
  mid_of 14 _ (28906419 / 33554432) (by simp [Named.named, Cert.KernelIdeal.κ]) (by simp [pole]; norm_num)

/-! ## The chain, over an array already scaled -/

/-- One select of the chain. -/
theorem step (s : EReal) (n : ℕ) (h : n + 1 < 16) (a : EReal) (ha : a = ((level ⟨n + 1, h⟩ : ℝ) : EReal)) (b : EReal)
    (hb : b = ((level (rankUpto s n (by omega)) : ℝ) : EReal)) :
    (if mid ⟨n, by omega⟩ < s then a else b) = ((level (rankUpto s (n + 1) h) : ℝ) : EReal) := by
  rw [ha, hb, rankUpto]
  split_ifs <;> rfl

theorem lower_at (v : FVec Ideal S256x2048 .f32) (r : Fin 256) (k : Fin 2048) :
    k0_pay10 (F := Ideal) v (ix2 r k) = ((level (rankUpto (k0_pay9 (F := Ideal) v (ix2 r k)) 6 (by omega)) : ℝ) : EReal) := by
  unfold k0_pay10
  generalize k0_pay9 (F := Ideal) v = z
  pointwise
  rw [mid_0, mid_1, mid_2, mid_3, mid_4, mid_5]
  exact step _ 5 (by omega) _ Consts.level_6 _
    (step _ 4 (by omega) _ Consts.level_5 _
    (step _ 3 (by omega) _ Consts.level_4 _
    (step _ 2 (by omega) _ Consts.level_3 _
    (step _ 1 (by omega) _ Consts.level_2 _
    (step _ 0 (by omega) _ Consts.level_1 _
    pole_0)))))

theorem upper_at (m w : FVec Ideal S256x1 .f32) (z y : FVec Ideal S256x2048 .f32) (r : Fin 256) (k : Fin 2048)
    (hy : y (ix2 r k) = ((level (rankUpto (z (ix2 r k)) 6 (by omega)) : ℝ) : EReal))
    (h12 : Ideal.ofBits .f32 0x3F006D04#32 < z (ix2 r k) ↔ mid 12 < z (ix2 r k)) :
    k0_pay11 m w z y (ix2 r k) = ((level (rank (z (ix2 r k))) : ℝ) : EReal) * w (ix2 r 0) + m (ix2 r 0) := by
  pointwise [k0_pay11]
  rw [mid_6, mid_7, mid_8, mid_9, mid_10, mid_11, mid_13, mid_14]
  simp only [h12]
  refine congrArg (fun a => a * w (ix2 r 0) + m (ix2 r 0)) ?_
  exact step _ 14 (by omega) _ EReal.coe_one.symm _
    (step _ 13 (by omega) _ Consts.level_14 _
    (step _ 12 (by omega) _ Consts.level_13 _
    (step _ 11 (by omega) _ Consts.level_12 _
    (step _ 10 (by omega) _ Consts.level_11 _
    (step _ 9 (by omega) _ Consts.level_10 _
    (step _ 8 (by omega) _ Consts.level_9 _
    (step _ 7 (by omega) _ Consts.level_8 _
    (step _ 6 (by omega) _ EReal.coe_zero.symm _
    hy))))))))

theorem top_at (v : FVec Ideal S256x2048 .f32) (r : Fin 256) :
    k0_pay5 (F := Ideal) v (ix2 r 0) = Spec.top (fun k => v (ix2 r k)) := by
  pointwise [k0_pay5]
  rw [negInf]; rfl

theorem bottom_at (v : FVec Ideal S256x2048 .f32) (r : Fin 256) :
    k0_pay6 (F := Ideal) v (ix2 r 0) = Spec.bottom (fun k => v (ix2 r k)) := by
  pointwise [k0_pay6]
  rw [posInf]; rfl

theorem half_sum (g l : FVec Ideal S256x1 .f32) (r : Fin 256) :
    mulf (addf g l) (broadcast S256x1 (Scalar.ofBits (F := Ideal) .f32 0x3F000000#32)) (ix2 r 0)
      = (g (ix2 r 0) + l (ix2 r 0)) * ((1 / 2 : ℝ) : EReal) := by
  pointwise
  rw [half]

theorem half_difference (g l : FVec Ideal S256x1 .f32) (r : Fin 256) :
    mulf (subf g l) (broadcast S256x1 (Scalar.ofBits (F := Ideal) .f32 0x3F000000#32)) (ix2 r 0)
      = (g (ix2 r 0) - l (ix2 r 0)) * ((1 / 2 : ℝ) : EReal) := by
  pointwise
  rw [half]

theorem moved_scaled (v : FVec Ideal S256x2048 .f32) (m w : FVec Ideal S256x1 .f32) (r : Fin 256) (k : Fin 2048) :
    divf (subf v (broadcastTo S256x2048 m broadcasts_S256x1_S256x2048)) (broadcastTo S256x2048 w broadcasts_S256x1_S256x2048) (ix2 r k)
      = Ideal.div (v (ix2 r k) - m (ix2 r 0)) (w (ix2 r 0)) := by
  pointwise

theorem offset_at (v : FVec Ideal S256x2048 .f32) (r : Fin 256) :
    k0_pay7 (F := Ideal) v (ix2 r 0) = Spec.offset (fun k => v (ix2 r k)) := by
  have e : k0_pay7 (F := Ideal) v = mulf (addf (k0_pay5 (F := Ideal) v) (k0_pay6 (F := Ideal) v))
    (broadcast S256x1 (Scalar.ofBits (F := Ideal) .f32 0x3F000000#32)) := rfl
  rw [e, half_sum, top_at, bottom_at, Spec.offset]

theorem range_at (v : FVec Ideal S256x2048 .f32) (r : Fin 256) :
    k0_pay8 (F := Ideal) v (ix2 r 0) = Spec.range (fun k => v (ix2 r k)) := by
  have e : k0_pay8 (F := Ideal) v = mulf (subf (k0_pay5 (F := Ideal) v) (k0_pay6 (F := Ideal) v))
    (broadcast S256x1 (Scalar.ofBits (F := Ideal) .f32 0x3F000000#32)) := rfl
  rw [e, half_difference, top_at, bottom_at, Spec.range]

theorem scaled_at (v : FVec Ideal S256x2048 .f32) (r : Fin 256) (k : Fin 2048) :
    k0_pay9 (F := Ideal) v (ix2 r k) = Spec.scaled (fun k => v (ix2 r k)) k := by
  have e : k0_pay9 (F := Ideal) v = divf (subf v (broadcastTo S256x2048 (k0_pay7 (F := Ideal) v) broadcasts_S256x1_S256x2048))
    (broadcastTo S256x2048 (k0_pay8 (F := Ideal) v) broadcasts_S256x1_S256x2048) := rfl
  rw [e, moved_scaled, offset_at, range_at, Spec.scaled]

/-- THE QUANTISED BLOCK: row by row `Spec.quant`, when the one threshold word that is not a midpoint parts the scaled
    entries as the midpoint does. -/
theorem quant_at (v : FVec Ideal S256x2048 .f32) (r : Fin 256) (k : Fin 2048)
    (h12 : Ideal.ofBits .f32 0x3F006D04#32 < Spec.scaled (fun k => v (ix2 r k)) k
      ↔ mid 12 < Spec.scaled (fun k => v (ix2 r k)) k) :
    k0_pay11 (F := Ideal) (k0_pay7 v) (k0_pay8 v) (k0_pay9 v) (k0_pay10 v) (ix2 r k) = Spec.quant (fun k => v (ix2 r k)) k := by
  rw [upper_at _ _ _ _ r k (lower_at v r k) (by rw [scaled_at]; exact h12), scaled_at, offset_at, range_at, Spec.quant]

/-! ## The block's products -/

theorem product1_at (q : FVec Ideal S256x2048 .f32) (x : FVec Ideal S1024x2048 .f32) (b : Fin 1024) (r : Fin 256) :
    k0_pay1 (F := Ideal) q x (ix2 b r) = ∑ k : Fin 2048, x (ix2 b k) * q (ix2 r k) := by
  pointwise [k0_pay1]

theorem product2_at (q : FVec Ideal S256x2048 .f32) (x : FVec Ideal S1024x2048 .f32) (b : Fin 1024) (r : Fin 256) :
    k0_pay2 (F := Ideal) q x (ix2 b r) = ∑ k : Fin 2048, x (ix2 b k) * q (ix2 r k) := by
  pointwise [k0_pay2]

theorem product3_at (q : FVec Ideal S256x2048 .f32) (x : FVec Ideal S1024x2048 .f32) (b : Fin 1024) (r : Fin 256) :
    k0_pay3 (F := Ideal) q x (ix2 b r) = ∑ k : Fin 2048, x (ix2 b k) * q (ix2 r k) := by
  pointwise [k0_pay3]

theorem product4_at (q : FVec Ideal S256x2048 .f32) (x : FVec Ideal S1024x2048 .f32) (b : Fin 1024) (r : Fin 256) :
    k0_pay4 (F := Ideal) q x (ix2 b r) = ∑ k : Fin 2048, x (ix2 b k) * q (ix2 r k) := by
  pointwise [k0_pay4]

end Cert.Block

end
-- ==== Proof.Array.lean ====
/- What the kernel's result array holds after the run: at every index a row of the input times a quantised row of the
   weight. -/
module

public import proofs.«01_k».proof.Proof.Gen.KernelIdeal.Value
public import proofs.«01_k».proof.Proof.Block
public import Idealize.ShloMosaic.Lib.Pipeline.ValueKit

@[expose] public section

set_option maxRecDepth 16384

noncomputable section

namespace Cert.Array

open Idealize.ShloMosaic Idealize.ShloMosaic.TcCoe Cert.KernelIdeal Cert.KernelIdeal.Gen Cert.Nearest Cert.Consts

variable (m : (ℓ : Loc nD τ sig) → Buf (Elt Ideal) ℓ)

/-- Where every window's block lies at a grid point. -/
theorem idx : ∀ t : Fin cfg0.N, win0_0.index t = ![0, 0] ∧ win0_1.index t = ![1, 0] ∧ win0_2.index t = ![2, 0]
    ∧ win0_3.index t = ![3, 0] ∧ win0_4.index t = ![t.val, 0] ∧ win0_5.index t = ![0, t.val] :=
  (by decide +kernel : ∀ t : Fin grid0.N, win0_0.index t = ![0, 0] ∧ win0_1.index t = ![1, 0] ∧ win0_2.index t = ![2, 0]
    ∧ win0_3.index t = ![3, 0] ∧ win0_4.index t = ![t.val, 0] ∧ win0_5.index t = ![0, t.val])

theorem lt_eight : ∀ t : Fin cfg0.N, t.val < 8 := (by decide +kernel : ∀ t : Fin grid0.N, t.val < 8)

/-- Block `t` of the weight is its rows from `256 * t` on. -/
theorem weight_at (c : Dev nD) (t : Fin cfg0.N) (r : Fin 256) (k : Fin 2048) (o : Fin 2048) (ho : o.val = t.val * 256 + r.val) :
    iblk m c 4 t (ix2 r k) = m ((c : Thread nD τ).loc main_arg1) (ix2 o k) := by
  blk_ext [iblk, V, idx t]

theorem input0_at (c : Dev nD) (t : Fin cfg0.N) (b : Fin 1024) (k : Fin 2048) (a : Fin 4096) (ha : a.val = b.val) :
    iblk m c 0 t (ix2 b k) = m ((c : Thread nD τ).loc main_arg0) (ix2 a k) := by
  blk_ext [iblk, V, idx t]

theorem input1_at (c : Dev nD) (t : Fin cfg0.N) (b : Fin 1024) (k : Fin 2048) (a : Fin 4096) (ha : a.val = 1024 + b.val) :
    iblk m c 1 t (ix2 b k) = m ((c : Thread nD τ).loc main_arg0) (ix2 a k) := by
  blk_ext [iblk, V, idx t]

theorem input2_at (c : Dev nD) (t : Fin cfg0.N) (b : Fin 1024) (k : Fin 2048) (a : Fin 4096) (ha : a.val = 2048 + b.val) :
    iblk m c 2 t (ix2 b k) = m ((c : Thread nD τ).loc main_arg0) (ix2 a k) := by
  blk_ext [iblk, V, idx t]

theorem input3_at (c : Dev nD) (t : Fin cfg0.N) (b : Fin 1024) (k : Fin 2048) (a : Fin 4096) (ha : a.val = 3072 + b.val) :
    iblk m c 3 t (ix2 b k) = m ((c : Thread nD τ).loc main_arg0) (ix2 a k) := by
  blk_ext [iblk, V, idx t]

/-- The result: at an index, a row of the input times a quantised row of the weight. -/
def G (x : FVec Ideal S4096x2048 .f32) (w : FVec Ideal S2048x2048 .f32) : FVec Ideal S4096x2048 .f32 :=
  fun j => Spec.prod (fun k => x (ix2 (j 0) k)) (fun k => w (ix2 (j 1) k))

/-- A load of a whole block is the block. -/
theorem whole_weight (v : Vec Ideal S256x2048 .f32) : View.ld v r0_0 = v := View.ld_unit_lit _ _ (by decide)

theorem whole_input (v : Vec Ideal S1024x2048 .f32) : View.ld v r0_1 = v := View.ld_unit_lit _ _ (by decide)

/-- The quantised block: its row `r` is the quantised row `256 * t + r` of the weight. -/
theorem quantised_at (w : FVec Ideal S2048x2048 .f32)
    (h12 : ∀ o k, Ideal.ofBits .f32 0x3F006D04#32 < Spec.scaled (fun k => w (ix2 o k)) k
      ↔ mid 12 < Spec.scaled (fun k => w (ix2 o k)) k)
    (x0 x1 x2 x3 : Vec Ideal S1024x2048 .f32) (v : Vec Ideal S256x2048 .f32) (r : Fin 256) (o : Fin 2048)
    (hv : ∀ k, v (ix2 r k) = w (ix2 o k)) (k : Fin 2048) :
    k0_pay12 (F := Ideal) x0 x1 x2 x3 v (ix2 r k) = Spec.quant (fun k => w (ix2 o k)) k := by
  have e : (fun k => v (ix2 r k)) = fun k => w (ix2 o k) := funext hv
  unfold k0_pay12
  rw [whole_weight, Block.quant_at v r k (by rw [e]; exact h12 o k), e]

/-- One stored piece is a piece of the result: `off` is its first row, `lane` its first column. -/
theorem piece_at (x : FVec Ideal S4096x2048 .f32) (w : FVec Ideal S2048x2048 .f32) (off lane : ℕ)
    (P : FVec Ideal S1024x256 .f32) (xb : FVec Ideal S1024x2048 .f32) (q : FVec Ideal S256x2048 .f32)
    (hP : ∀ b r, P (ix2 b r) = ∑ k : Fin 2048, xb (ix2 b k) * q (ix2 r k))
    (hx : ∀ (b : Fin 1024) (k : Fin 2048) (a : Fin 4096), a.val = off + b.val → xb (ix2 b k) = x (ix2 a k))
    (hq : ∀ (r : Fin 256) (o : Fin 2048), o.val = lane + r.val → ∀ k, q (ix2 r k) = Spec.quant (fun k => w (ix2 o k)) k)
    (b : Fin 1024) (r : Fin 256) (j : S4096x2048.Idx) (h0 : (j 0).val = off + b.val) (h1 : (j 1).val = lane + r.val) :
    P (ix2 b r) = G x w j := by
  rw [hP, G, Spec.prod]
  exact Finset.sum_congr rfl fun k _ => by rw [hx b k (j 0) h0, hq r (j 1) h1 k]

/-- THE RESULT ARRAY after the run. -/
theorem out_at (c : Dev nD) (x : FVec Ideal S4096x2048 .f32) (w : FVec Ideal S2048x2048 .f32)
    (hx : m ((c : Thread nD τ).loc main_arg0) = x) (hw : m ((c : Thread nD τ).loc main_arg1) = w)
    (h12 : ∀ o k, Ideal.ofBits .f32 0x3F006D04#32 < Spec.scaled (fun k => w (ix2 o k)) k
      ↔ mid 12 < Spec.scaled (fun k => w (ix2 o k)) k) :
    (dats m 0 c).arrAt 5 cfg0.N = G x w := by
  refine (dats m 0 c).arrAt_eq_of_covers 5 _ (by decide +kernel) fun t hf y => ?_
  blk_simp
  rw [after0_5]
  have j0 : (((win0_5.blk t).view.emb y) 0 : ℕ) = (y 0).val := by blk_simp [idx t]
  have j1 : (((win0_5.blk t).view.emb y) 1 : ℕ) = t.val * 256 + (y 1).val := by blk_simp [idx t]
  have hq : ∀ (r : Fin 256) (o : Fin 2048), o.val = t.val * 256 + r.val → ∀ k,
      k0_pay12 (iblk m c 0 t) (iblk m c 1 t) (iblk m c 2 t) (iblk m c 3 t) (iblk m c 4 t) (ix2 r k) = Spec.quant (fun k => w (ix2 o k)) k :=
    fun r o ho k => quantised_at w h12 _ _ _ _ _ r o (fun k => by rw [weight_at m c t r k o ho, hw]) k
  unfold out0_5
  canon_tiles z h
  · idx_vars z
    exact piece_at x w 3072 (t.val * 256) _ _ _ (Block.product4_at _ _)
      (fun b k a ha => by rw [whole_input, input3_at m c t b k a (by omega), hx]) hq _ _ _ (by rw [j0, h0]) (by rw [j1, h1])
  · idx_vars z
    exact piece_at x w 2048 (t.val * 256) _ _ _ (Block.product3_at _ _)
      (fun b k a ha => by rw [whole_input, input2_at m c t b k a (by omega), hx]) hq _ _ _ (by rw [j0, h0]) (by rw [j1, h1])
  · idx_vars z
    exact piece_at x w 1024 (t.val * 256) _ _ _ (Block.product2_at _ _)
      (fun b k a ha => by rw [whole_input, input1_at m c t b k a (by omega), hx]) hq _ _ _ (by rw [j0, h0]) (by rw [j1, h1])
  · idx_vars z
    exact piece_at x w 0 (t.val * 256) _ _ _ (Block.product1_at _ _)
      (fun b k a ha => by rw [whole_input, input0_at m c t b k a (by omega), hx]) hq _ _ _ (by rw [j0, h0]; simp) (by rw [j1, h1])

end Cert.Array

end
-- ==== Proof.RefRun.lean ====
/- The reference program as the list of its host operations, and its run: every weakly fair execution ends with
   the result buffer at the operations' composed term of the arguments' launch contents, the arguments unchanged. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 30 of 112 (window `main_part0`). -/
abbrev ops_part0_0 : List (HloOp τ sig (Elt F)) :=
  [ nullary main_cst (fun i => FloatOps.ofBits .f32 (lit0 (S30.rowMajor i))),
    nullary main_cst_0 (constant S_ .f32 0xFF800000#32),
    binary main_arg1 main_cst_0 main_v0 ((fun x v => Host.reduce FloatOps.maximumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v0 main_v1 (broadcastInDim S2048x1 ![0] bcast_S2048_S2048x1_0 : (⟨S2048, .f32⟩ : BufTy).Contents (Elt F) → (⟨S2048x1, .f32⟩ : BufTy).Contents (Elt F)),
    nullary main_cst_1 (constant S_ .f32 0x7F800000#32),
    binary main_arg1 main_cst_1 main_v2 ((fun x v => Host.reduce FloatOps.minimumf x v reducesTo_S2048x2048_S2048_d1 h_S_) : (⟨S2048x2048, .f32⟩ : BufTy).Contents (Elt F) → (⟨S_, .f32⟩ : BufTy).Contents (Elt F) → (⟨S2048, .f32⟩ : BufTy).Contents (Elt F)),
    unary main_v2 main_v3 (broadcastInDim S2048x1 ![0] bcast_S2048_S2048x1_0 : (⟨S2048, .f32⟩ : BufTy).Contents (Elt F) → (⟨S2048x1, .f32⟩ : BufTy).Contents (Elt F)),
    binary main_v1 main_v3 main_v4 (addf : (⟨S2048x1, .f32⟩ : BufTy).Contents (Elt F) → (⟨S2048x1, .f32⟩ : BufTy).Contents (Elt F) → (⟨S2048x1, .f32⟩ : BufTy).Contents (Elt F)),
    nullary main_cst_2 (constant S_ .f32 0x40000000#32),
    unary main_cst_2 main_v5 (broadcastInDim S2048x1 ![] bcast_S_S2048x1 : (⟨S_, .f32⟩ : BufTy).Contents (Elt F) → (⟨S2048x1, .f32⟩ : BufTy).Contents (Elt F)),
    binary main_v4 main_v5 main_v6 (Host.divf : (⟨S2048x1, .f32⟩ : BufTy).Contents (Elt F) → (⟨S2048x1, .f32⟩ : BufTy).Contents (Elt F) → (⟨S2048x1, .f32⟩ : BufTy).Contents (Elt F)),
    binary main_v1 main_v3 main_v7 (subf : (⟨S2048x1, .f32⟩ : BufTy).Contents (Elt F) → (⟨S2048x1, .f32⟩ : BufTy).Contents (Elt F) → (⟨S2048x1, .f32⟩ : BufTy).Contents (Elt F)),
    nullary main_cst_3 (constant S_ .f32 0x40000000#32),
    unary main_cst_3 main_v8 (broadcastInDim S2048x1 ![] bcast_S_S2048x1 : (⟨S_, .f32⟩ : BufTy).Contents (Elt F) → (⟨S2048x1, .f32⟩ : BufTy).Contents (Elt F)),
    binary main_v7 main_v8 main_v9 (Host.divf : (⟨S2048x1, .f32⟩ : BufTy).Contents (Elt F) → (⟨S2048x1, .f32⟩ : BufTy).Contents (Elt F) → (⟨S2048x1, .f32⟩ : BufTy).Contents (Elt F)),
    unary main_v6 main_v10 (broadcastInDim S2048x2048 ![0, 1] bcast_S2048x1_S2048x2048_0_1 : (⟨S2048x1, .f32⟩ : BufTy).Contents (Elt F) → (⟨S2048x2048, .f32⟩ : BufTy).Contents (Elt F)),
    binary main_arg1 main_v10 main_v11 (subf : (⟨S2048x2048, .f32⟩ : BufTy).Contents (Elt F) → (⟨S2048x2048, .f32⟩ : BufTy).Contents (Elt F) → (⟨S2048x2048, .f32⟩ : BufTy).Contents (Elt F)),
    unary main_v9 main_v12 (broadcastInDim S2048x2048 ![0, 1] bcast_S2048x1_S2048x2048_0_1 : (⟨S2048x1, .f32⟩ : BufTy).Contents (Elt F) → (⟨S2048x2048, .f32⟩ : BufTy).Contents (Elt F)),
    binary main_v11 main_v12 main_v13 (Host.divf : (⟨S2048x2048, .f32⟩ : BufTy).Contents (Elt F) → (⟨S2048x2048, .f32⟩ : BufTy).Contents (Elt F) → (⟨S2048x2048, .f32⟩ : BufTy).Contents (Elt F)),
    reshape main_v13 main_v14 (rfl : (.f32 : EltTy) = .f32) shapeCasts_S2048x2048_S4194304,
    unary main_v14 main_v15 (broadcastInDim S4194304x1 ![0] bcast_S4194304_S4194304x1_0 : (⟨S4194304, .f32⟩ : BufTy).Contents (Elt F) → (⟨S4194304x1, .f32⟩ : BufTy).Contents (Elt F)),
    unary main_arg2 main_v16 (broadcastInDim S1x16 ![1] bcast_S16_S1x16_1 : (⟨S16, .f32⟩ : BufTy).Contents (Elt F) → (⟨S1x16, .f32⟩ : BufTy).Contents (Elt F)),
    unary main_v15 main_v17 (broadcastInDim S4194304x16 ![0, 1] bcast_S4194304x1_S4194304x16_0_1 : (⟨S4194304x1, .f32⟩ : BufTy).Contents (Elt F) → (⟨S4194304x16, .f32⟩ : BufTy).Contents (Elt F)),
    unary main_v16 main_v18 (broadcastInDim S4194304x16 ![0, 1] bcast_S1x16_S4194304x16_0_1 : (⟨S1x16, .f32⟩ : BufTy).Contents (Elt F) → (⟨S4194304x16, .f32⟩ : BufTy).Contents (Elt F)),
    binary main_v17 main_v18 main_v19 (subf : (⟨S4194304x16, .f32⟩ : BufTy).Contents (Elt F) → (⟨S4194304x16, .f32⟩ : BufTy).Contents (Elt F) → (⟨S4194304x16, .f32⟩ : BufTy).Contents (Elt F)),
    unary main_v19 main_v20 (Host.absf : (⟨S4194304x16, .f32⟩ : BufTy).Contents (Elt F) → (⟨S4194304x16, .f32⟩ : BufTy).Contents (Elt F)),
    TRef.nullary (TRef.of (T := ⟨S4194304x16, .i32⟩) main_call0_v0) (iotaInDim S4194304x16 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S4194304x16, .f32⟩) main_v20) (TRef.of (T := ⟨S4194304x16, .i32⟩) main_call0_v0) (TRef.of (T := ⟨S_, .f32⟩) main_call0_cst) (TRef.of (T := ⟨S_, .i32⟩) main_call0_c) (TRef.of (T := ⟨S4194304, .f32⟩) main_call0_v1_0) (fun x y u v j => (Host.argReduce reducer_argmin_f32_i32 x y u v reducesTo_S4194304x16_S4194304_d1 h_S_ j).1) ]

/-- @main's operations 31 … 60 of 112 (window `main_part0`). -/
abbrev ops_part0_1 : List (HloOp τ sig (Elt F)) :=
  [ TRef.quaternary (TRef.of (T := ⟨S4194304x16, .f32⟩) main_v20) (TRef.of (T := ⟨S4194304x16, .i32⟩) main_call0_v0) (TRef.of (T := ⟨S_, .f32⟩) main_call0_cst) (TRef.of (T := ⟨S_, .i32⟩) main_call0_c) (TRef.of (T := ⟨S4194304, .i32⟩) main_v21) (fun x y u v j => (Host.argReduce reducer_argmin_f32_i32 x y u v reducesTo_S4194304x16_S4194304_d1 h_S_ j).2),
    TRef.nullary (TRef.of (T := ⟨S_, .i32⟩) main_call1_c) (constantI S_ 32 0#32),
    TRef.unary (TRef.of (T := ⟨S_, .i32⟩) main_call1_c) (TRef.of (T := ⟨S4194304, .i32⟩) main_call1_v0) (broadcastInDim S4194304 ![] bcast_S_S4194304),
    TRef.binary (TRef.of (T := ⟨S4194304, .i32⟩) main_v21) (TRef.of (T := ⟨S4194304, .i32⟩) main_call1_v0) (TRef.of (T := ⟨S4194304, .i1⟩) main_call1_v1) (cmpi .slt),
    TRef.nullary (TRef.of (T := ⟨S_, .i32⟩) main_call1_c_0) (constantI S_ 32 16#32),
    TRef.unary (TRef.of (T := ⟨S_, .i32⟩) main_call1_c_0) (TRef.of (T := ⟨S4194304, .i32⟩) main_call1_v2) (broadcastInDim S4194304 ![] bcast_S_S4194304),
    TRef.binary (TRef.of (T := ⟨S4194304, .i32⟩) main_v21) (TRef.of (T := ⟨S4194304, .i32⟩) main_call1_v2) (TRef.of (T := ⟨S4194304, .i32⟩) main_call1_v3) addi,
    TRef.ternary (TRef.of (T := ⟨S4194304, .i1⟩) main_call1_v1) (TRef.of (T := ⟨S4194304, .i32⟩) main_call1_v3) (TRef.of (T := ⟨S4194304, .i32⟩) main_v21) (TRef.of (T := ⟨S4194304, .i32⟩) main_call1_v4) select,
    TRef.unary (TRef.of (T := ⟨S4194304, .i32⟩) main_call1_v4) (TRef.of (T := ⟨S4194304x1, .i32⟩) main_call1_v5) (broadcastInDim S4194304x1 ![0] bcast_S4194304_S4194304x1_0),
    TRef.nullary (TRef.of (T := ⟨S1, .i32⟩) main_call1_c_1) (constantI S1 32 15#32),
    TRef.nullary (TRef.of (T := ⟨S_, .i32⟩) main_call1_c_2) (constantI S_ 32 0#32),
    TRef.unary (TRef.of (T := ⟨S_, .i32⟩) main_call1_c_2) (TRef.of (T := ⟨S4194304x1, .i32⟩) main_call1_v6) (broadcastInDim S4194304x1 ![] bcast_S_S4194304x1),
    TRef.binary (TRef.of (T := ⟨S4194304x1, .i32⟩) main_call1_v5) (TRef.of (T := ⟨S4194304x1, .i32⟩) main_call1_v6) (TRef.of (T := ⟨S4194304x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S4194304x1, .i32⟩) main_call1_v9) (broadcastInDim S4194304x1 ![0, 1] bcast_S1x1_S4194304x1_0_1),
    TRef.binary (TRef.of (T := ⟨S4194304x1, .i32⟩) main_call1_v5) (TRef.of (T := ⟨S4194304x1, .i32⟩) main_call1_v9) (TRef.of (T := ⟨S4194304x1, .i1⟩) main_call1_v10) (cmpi .sle),
    TRef.binary (TRef.of (T := ⟨S4194304x1, .i1⟩) main_call1_v7) (TRef.of (T := ⟨S4194304x1, .i1⟩) main_call1_v10) (TRef.of (T := ⟨S4194304x1, .i1⟩) main_call1_v11) andi,
    TRef.nullary (TRef.of (T := ⟨S_, .i1⟩) main_call1_c_3) (constantI S_ 1 1#1),
    TRef.binary (TRef.of (T := ⟨S4194304x1, .i1⟩) main_call1_v11) (TRef.of (T := ⟨S_, .i1⟩) main_call1_c_3) (TRef.of (T := ⟨S4194304, .i1⟩) main_call1_v12) (fun x v => Host.reduce IntOp.andi x v reducesTo_S4194304x1_S4194304_d1 h_S_),
    TRef.binary (TRef.of (T := ⟨S16, .f32⟩) main_arg2) (TRef.of (T := ⟨S4194304x1, .i32⟩) main_call1_v5) (TRef.of (T := ⟨S4194304, .f32⟩) main_call1_v13) (fun x i => Host.gather gather_S16_S4194304x1_S4194304_n_0_n_n_0_1_1 x i),
    TRef.nullary (TRef.of (T := ⟨S_, .f32⟩) main_call1_cst) (constant S_ .f32 0x7FC00000#32),
    TRef.unary (TRef.of (T := ⟨S_, .f32⟩) main_call1_cst) (TRef.of (T := ⟨S4194304, .f32⟩) main_call1_v14) (broadcastInDim S4194304 ![] bcast_S_S4194304),
    TRef.ternary (TRef.of (T := ⟨S4194304, .i1⟩) main_call1_v12) (TRef.of (T := ⟨S4194304, .f32⟩) main_call1_v13) (TRef.of (T := ⟨S4194304, .f32⟩) main_call1_v14) (TRef.of (T := ⟨S4194304, .f32⟩) main_v22) select,
    reshape main_v22 main_v23 (rfl : (.f32 : EltTy) = .f32) shapeCasts_S4194304_S2048x2048,
    unary main_v23 main_v24 (Host.absf : (⟨S2048x2048, .f32⟩ : BufTy).Contents (Elt F) → (⟨S2048x2048, .f32⟩ : BufTy).Contents (Elt F)),
    unary main_v24 main_v25 (broadcastInDim S2048x2048x1 ![0, 1] bcast_S2048x2048_S2048x2048x1_0_1 : (⟨S2048x2048, .f32⟩ : BufTy).Contents (Elt F) → (⟨S2048x2048x1, .f32⟩ : BufTy).Contents (Elt F)),
    unary main_cst main_v26 (broadcastInDim S1x1x30 ![2] bcast_S30_S1x1x30_2 : (⟨S30, .f32⟩ : BufTy).Contents (Elt F) → (⟨S1x1x30, .f32⟩ : BufTy).Contents (Elt F)),
    unary main_v25 main_v27 (broadcastInDim S2048x2048x30 ![0, 1, 2] bcast_S2048x2048x1_S2048x2048x30_0_1_2 : (⟨S2048x2048x1, .f32⟩ : BufTy).Contents (Elt F) → (⟨S2048x2048x30, .f32⟩ : BufTy).Contents (Elt F)),
    unary main_v26 main_v28 (broadcastInDim S2048x2048x30 ![0, 1, 2] bcast_S1x1x30_S2048x2048x30_0_1_2 : (⟨S1x1x30, .f32⟩ : BufTy).Contents (Elt F) → (⟨S2048x2048x30, .f32⟩ : BufTy).Contents (Elt F)),
    binary main_v27 main_v28 main_v29 (cmpf .oge : (⟨S2048x2048x30, .f32⟩ : BufTy).Contents (Elt F) → (⟨S2048x2048x30, .f32⟩ : BufTy).Contents (Elt F) → (⟨S2048x2048x30, .i1⟩ : BufTy).Contents (Elt F)) ]

/-- @main's operations 61 … 90 of 112 (window `main_part0`). -/
abbrev ops_part0_2 : List (HloOp τ sig (Elt F)) :=
  [ nullary main_cst_4 (constant S_ .f32 0x3A800000#32),
    unary main_cst_4 main_v30 (broadcastInDim S30 ![] bcast_S_S30 : (⟨S_, .f32⟩ : BufTy).Contents (Elt F) → (⟨S30, .f32⟩ : BufTy).Contents (Elt F)),
    binary main_cst main_v30 main_v31 (mulf : (⟨S30, .f32⟩ : BufTy).Contents (Elt F) → (⟨S30, .f32⟩ : BufTy).Contents (Elt F) → (⟨S30, .f32⟩ : BufTy).Contents (Elt F)),
    nullary main_cst_5 (constant S_ .f32 0x33800000#32),
    TRef.unary (TRef.of (T := ⟨S_, .f32⟩) main_cst_5) (TRef.of (T := ⟨S_, .f32⟩) main_call2_v0) id,
    TRef.unary (TRef.of (T := ⟨S30, .f32⟩) main_v31) (TRef.of (T := ⟨S2048x2048x30, .f32⟩) main_call2_v1) (broadcastInDim S2048x2048x30 ![2] bcast_S30_S2048x2048x30_2),
    TRef.unary (TRef.of (T := ⟨S_, .f32⟩) main_call2_v0) (TRef.of (T := ⟨S2048x2048x30, .f32⟩) main_call2_v2) (broadcastInDim S2048x2048x30 ![] bcast_S_S2048x2048x30),
    TRef.ternary (TRef.of (T := ⟨S2048x2048x30, .i1⟩) main_v29) (TRef.of (T := ⟨S2048x2048x30, .f32⟩) main_call2_v1) (TRef.of (T := ⟨S2048x2048x30, .f32⟩) main_call2_v2) (TRef.of (T := ⟨S2048x2048x30, .f32⟩) main_v32) select,
    nullary main_cst_6 (constant S_ .f32 0xFF800000#32),
    binary main_v32 main_cst_6 main_v33 ((fun x v => Host.reduce FloatOps.maximumf x v reducesTo_S2048x2048x30_S2048x2048_d2 h_S_) : (⟨S2048x2048x30, .f32⟩ : BufTy).Contents (Elt F) → (⟨S_, .f32⟩ : BufTy).Contents (Elt F) → (⟨S2048x2048, .f32⟩ : BufTy).Contents (Elt F)),
    binary main_v23 main_v33 main_v34 (Host.divf : (⟨S2048x2048, .f32⟩ : BufTy).Contents (Elt F) → (⟨S2048x2048, .f32⟩ : BufTy).Contents (Elt F) → (⟨S2048x2048, .f32⟩ : BufTy).Contents (Elt F)),
    TRef.unary (TRef.of (T := ⟨S2048x2048, .f32⟩) main_v34) (TRef.of (T := ⟨S2048x2048, .f32⟩) main_v35) Host.roundeven,
    binary main_v35 main_v33 main_v36 (mulf : (⟨S2048x2048, .f32⟩ : BufTy).Contents (Elt F) → (⟨S2048x2048, .f32⟩ : BufTy).Contents (Elt F) → (⟨S2048x2048, .f32⟩ : BufTy).Contents (Elt F)),
    nullary main_cst_7 (constant S_ .f32 0x477FF000#32),
    unary main_cst_7 main_v37 (broadcastInDim S2048x2048 ![] bcast_S_S2048x2048 : (⟨S_, .f32⟩ : BufTy).Contents (Elt F) → (⟨S2048x2048, .f32⟩ : BufTy).Contents (Elt F)),
    binary main_v23 main_v37 main_v38 (cmpf .oge : (⟨S2048x2048, .f32⟩ : BufTy).Contents (Elt F) → (⟨S2048x2048, .f32⟩ : BufTy).Contents (Elt F) → (⟨S2048x2048, .i1⟩ : BufTy).Contents (Elt F)),
    nullary main_cst_8 (constant S_ .f32 0xC77FF000#32),
    unary main_cst_8 main_v39 (broadcastInDim S2048x2048 ![] bcast_S_S2048x2048 : (⟨S_, .f32⟩ : BufTy).Contents (Elt F) → (⟨S2048x2048, .f32⟩ : BufTy).Contents (Elt F)),
    binary main_v23 main_v39 main_v40 (cmpf .ole : (⟨S2048x2048, .f32⟩ : BufTy).Contents (Elt F) → (⟨S2048x2048, .f32⟩ : BufTy).Contents (Elt F) → (⟨S2048x2048, .i1⟩ : BufTy).Contents (Elt F)),
    nullary main_cst_9 (constant S_ .f32 0xFF800000#32),
    TRef.unary (TRef.of (T := ⟨S_, .f32⟩) main_cst_9) (TRef.of (T := ⟨S_, .f32⟩) main_call4_v0) id,
    TRef.unary (TRef.of (T := ⟨S_, .f32⟩) main_call4_v0) (TRef.of (T := ⟨S2048x2048, .f32⟩) main_call4_v1) (broadcastInDim S2048x2048 ![] bcast_S_S2048x2048),
    TRef.ternary (TRef.of (T := ⟨S2048x2048, .i1⟩) main_v40) (TRef.of (T := ⟨S2048x2048, .f32⟩) main_call4_v1) (TRef.of (T := ⟨S2048x2048, .f32⟩) main_v36) (TRef.of (T := ⟨S2048x2048, .f32⟩) main_v41) select,
    nullary main_cst_10 (constant S_ .f32 0x7F800000#32),
    TRef.unary (TRef.of (T := ⟨S_, .f32⟩) main_cst_10) (TRef.of (T := ⟨S_, .f32⟩) main_call5_v0) id,
    TRef.unary (TRef.of (T := ⟨S_, .f32⟩) main_call5_v0) (TRef.of (T := ⟨S2048x2048, .f32⟩) main_call5_v1) (broadcastInDim S2048x2048 ![] bcast_S_S2048x2048),
    TRef.ternary (TRef.of (T := ⟨S2048x2048, .i1⟩) main_v38) (TRef.of (T := ⟨S2048x2048, .f32⟩) main_call5_v1) (TRef.of (T := ⟨S2048x2048, .f32⟩) main_v41) (TRef.of (T := ⟨S2048x2048, .f32⟩) main_v42) select,
    unary main_v9 main_v43 (broadcastInDim S2048x2048 ![0, 1] bcast_S2048x1_S2048x2048_0_1 : (⟨S2048x1, .f32⟩ : BufTy).Contents (Elt F) → (⟨S2048x2048, .f32⟩ : BufTy).Contents (Elt F)),
    binary main_v42 main_v43 main_v44 (mulf : (⟨S2048x2048, .f32⟩ : BufTy).Contents (Elt F) → (⟨S2048x2048, .f32⟩ : BufTy).Contents (Elt F) → (⟨S2048x2048, .f32⟩ : BufTy).Contents (Elt F)),
    unary main_v6 main_v45 (broadcastInDim S2048x2048 ![0, 1] bcast_S2048x1_S2048x2048_0_1 : (⟨S2048x1, .f32⟩ : BufTy).Contents (Elt F) → (⟨S2048x2048, .f32⟩ : BufTy).Contents (Elt F)) ]

/-- @main's operations 91 … 92 of 112 (window `main_part0`). -/
abbrev ops_part0_3 : List (HloOp τ sig (Elt F)) :=
  [ binary main_v44 main_v45 main_v46 (addf : (⟨S2048x2048, .f32⟩ : BufTy).Contents (Elt F) → (⟨S2048x2048, .f32⟩ : BufTy).Contents (Elt F) → (⟨S2048x2048, .f32⟩ : BufTy).Contents (Elt F)),
    nullary main_cst_11 (constant S_ .f32 0x00000000#32) ]

/-- Window `main_part0`'s operations. Not an abbreviation: `main_eq` below splits `ops` into the windows and no further. -/
def ops_part0 : List (HloOp τ sig (Elt F)) :=
  ops_part0_0 ++ (ops_part0_1 ++ (ops_part0_2 ++ (ops_part0_3)))

/-- @main's operations 93 … 112 of 112 (window `main_part1`). -/
abbrev ops_part1 : List (HloOp τ sig (Elt F)) :=
  [ nullary main_cst_12 (constant S_ .f32 0x00000000#32),
    nullary main_cst_13 (constant S_ .f32 0x00000000#32),
    TRef.binary (TRef.of (T := ⟨S2048x2048, .f32⟩) main_v46) (TRef.of (T := ⟨S2048x2048, .f32⟩) main_v46) (TRef.of (T := ⟨S2048x2048, .i1⟩) main_call6_v0) (cmpf .une),
    TRef.unary (TRef.of (T := ⟨S_, .f32⟩) main_cst_11) (TRef.of (T := ⟨S_, .f32⟩) main_call6_v1) id,
    TRef.unary (TRef.of (T := ⟨S_, .f32⟩) main_call6_v1) (TRef.of (T := ⟨S2048x2048, .f32⟩) main_call6_call0_v0) (broadcastInDim S2048x2048 ![] bcast_S_S2048x2048),
    TRef.ternary (TRef.of (T := ⟨S2048x2048, .i1⟩) main_call6_v0) (TRef.of (T := ⟨S2048x2048, .f32⟩) main_call6_call0_v0) (TRef.of (T := ⟨S2048x2048, .f32⟩) main_v46) (TRef.of (T := ⟨S2048x2048, .f32⟩) main_call6_v2) select,
    TRef.nullary (TRef.of (T := ⟨S_, .f32⟩) main_call6_cst) (constant S_ .f32 0x7F800000#32),
    TRef.unary (TRef.of (T := ⟨S_, .f32⟩) main_call6_cst) (TRef.of (T := ⟨S2048x2048, .f32⟩) main_call6_v3) (broadcastInDim S2048x2048 ![] bcast_S_S2048x2048),
    TRef.binary (TRef.of (T := ⟨S2048x2048, .f32⟩) main_call6_v2) (TRef.of (T := ⟨S2048x2048, .f32⟩) main_call6_v3) (TRef.of (T := ⟨S2048x2048, .i1⟩) main_call6_v4) (cmpf .oeq),
    TRef.unary (TRef.of (T := ⟨S_, .f32⟩) main_cst_13) (TRef.of (T := ⟨S_, .f32⟩) main_call6_v5) id,
    TRef.unary (TRef.of (T := ⟨S_, .f32⟩) main_call6_v5) (TRef.of (T := ⟨S2048x2048, .f32⟩) main_call6_call1_v0) (broadcastInDim S2048x2048 ![] bcast_S_S2048x2048),
    TRef.ternary (TRef.of (T := ⟨S2048x2048, .i1⟩) main_call6_v4) (TRef.of (T := ⟨S2048x2048, .f32⟩) main_call6_call1_v0) (TRef.of (T := ⟨S2048x2048, .f32⟩) main_call6_v2) (TRef.of (T := ⟨S2048x2048, .f32⟩) main_call6_v6) select,
    TRef.nullary (TRef.of (T := ⟨S_, .f32⟩) main_call6_cst_0) (constant S_ .f32 0xFF800000#32),
    TRef.unary (TRef.of (T := ⟨S_, .f32⟩) main_call6_cst_0) (TRef.of (T := ⟨S2048x2048, .f32⟩) main_call6_v7) (broadcastInDim S2048x2048 ![] bcast_S_S2048x2048),
    TRef.binary (TRef.of (T := ⟨S2048x2048, .f32⟩) main_call6_v6) (TRef.of (T := ⟨S2048x2048, .f32⟩) main_call6_v7) (TRef.of (T := ⟨S2048x2048, .i1⟩) main_call6_v8) (cmpf .oeq),
    TRef.unary (TRef.of (T := ⟨S_, .f32⟩) main_cst_12) (TRef.of (T := ⟨S_, .f32⟩) main_call6_v9) id,
    TRef.unary (TRef.of (T := ⟨S_, .f32⟩) main_call6_v9) (TRef.of (T := ⟨S2048x2048, .f32⟩) main_call6_call2_v0) (broadcastInDim S2048x2048 ![] bcast_S_S2048x2048),
    TRef.ternary (TRef.of (T := ⟨S2048x2048, .i1⟩) main_call6_v8) (TRef.of (T := ⟨S2048x2048, .f32⟩) main_call6_call2_v0) (TRef.of (T := ⟨S2048x2048, .f32⟩) main_call6_v6) (TRef.of (T := ⟨S2048x2048, .f32⟩) main_v47) select,
    unary main_v47 main_v48 ((transpose S2048x2048 [1, 0] · transposes_S2048x2048_S2048x2048_1_0) : (⟨S2048x2048, .f32⟩ : BufTy).Contents (Elt F) → (⟨S2048x2048, .f32⟩ : BufTy).Contents (Elt F)),
    binary main_arg0 main_v48 main_v49 ((fun l r => Host.dotGeneral dot_S4096x2048_S2048x2048_S4096x2048_1_0_0_1_n_n none l r) : (⟨S4096x2048, .f32⟩ : BufTy).Contents (Elt F) → (⟨S2048x2048, .f32⟩ : BufTy).Contents (Elt F) → (⟨S4096x2048, .f32⟩ : BufTy).Contents (Elt F)) ]

/-- @main's 112 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨nullary_bufs_sub .., nullary_bufs_sub .., binary_bufs_sub .., unary_bufs_sub .., nullary_bufs_sub .., binary_bufs_sub .., unary_bufs_sub .., binary_bufs_sub .., nullary_bufs_sub .., unary_bufs_sub .., binary_bufs_sub .., binary_bufs_sub .., nullary_bufs_sub .., unary_bufs_sub .., binary_bufs_sub .., unary_bufs_sub .., binary_bufs_sub .., unary_bufs_sub .., binary_bufs_sub .., reshape_bufs_sub .., unary_bufs_sub .., unary_bufs_sub .., unary_bufs_sub .., unary_bufs_sub .., binary_bufs_sub .., unary_bufs_sub .., nullary_bufs_sub .., nullary_bufs_sub .., nullary_bufs_sub .., quaternary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨quaternary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., unary_bufs_sub .., unary_bufs_sub .., unary_bufs_sub .., unary_bufs_sub .., unary_bufs_sub .., binary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨nullary_bufs_sub .., unary_bufs_sub .., binary_bufs_sub .., nullary_bufs_sub .., unary_bufs_sub .., unary_bufs_sub .., unary_bufs_sub .., ternary_bufs_sub .., nullary_bufs_sub .., binary_bufs_sub .., binary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., unary_bufs_sub .., ternary_bufs_sub .., unary_bufs_sub .., binary_bufs_sub .., unary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_3_sub : (ops_part0_3 : List (HloOp τ sig (Elt F))).Forall fun op => op.bufs ⊆ tcRefs τ sig :=
  ⟨binary_bufs_sub .., nullary_bufs_sub ..⟩
set_option maxRecDepth 8192 in
theorem ops_part0_3_fresh : (ops_part0_3 : List (HloOp τ sig (Elt F))).Forall fun op => op.fresh = ∅ :=
  ⟨rfl, rfl⟩
set_option maxRecDepth 8192 in
theorem ops_part1_sub : (ops_part1 : List (HloOp τ sig (Elt F))).Forall fun op => op.bufs ⊆ tcRefs τ sig :=
  ⟨nullary_bufs_sub .., nullary_bufs_sub .., binary_bufs_sub .., unary_bufs_sub .., unary_bufs_sub .., ternary_bufs_sub .., nullary_bufs_sub .., unary_bufs_sub .., binary_bufs_sub .., unary_bufs_sub .., unary_bufs_sub .., ternary_bufs_sub .., nullary_bufs_sub .., unary_bufs_sub .., binary_bufs_sub .., unary_bufs_sub .., unary_bufs_sub .., ternary_bufs_sub .., unary_bufs_sub .., binary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h | h
    exacts [List.forall_iff_forall_mem.mp ops_part0_0_sub op h, List.forall_iff_forall_mem.mp ops_part0_1_sub op h, List.forall_iff_forall_mem.mp ops_part0_2_sub op h, List.forall_iff_forall_mem.mp ops_part0_3_sub op h, List.forall_iff_forall_mem.mp ops_part1_sub op h]
theorem ops_fresh : ∀ op ∈ (ops : List (HloOp τ sig (Elt F))), op.fresh = ∅ := fun op h => by
    simp only [ops, ops_part0, List.mem_append, or_assoc] at h
    rcases h with h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part0_3_fresh op h, List.forall_iff_forall_mem.mp ops_part1_fresh op h]

set_option maxRecDepth 8192 in
/-- `main_cst`'s composed term of the arguments (named: it is used 2 times). -/
def res_main_cst (V0 : Valuation τ sig (Elt F)) : (Proc.devRef .tc main_cst : DevRef τ sig).ty.Contents (Elt F) :=
  (fun i => FloatOps.ofBits .f32 (lit0 (S30.rowMajor i)))

set_option maxRecDepth 8192 in
/-- `main_v1`'s composed term of the arguments (named: it is used 2 times). -/
def res_main_v1 (V0 : Valuation τ sig (Elt F)) : (Proc.devRef .tc main_v1 : DevRef τ sig).ty.Contents (Elt F) :=
  broadcastInDim S2048x1 ![0] bcast_S2048_S2048x1_0 (Host.reduce FloatOps.maximumf (V0 (Proc.devRef .tc main_arg1)) (constant S_ .f32 0xFF800000#32) reducesTo_S2048x2048_S2048_d1 h_S_)

set_option maxRecDepth 8192 in
/-- `main_v3`'s composed term of the arguments (named: it is used 2 times). -/
def res_main_v3 (V0 : Valuation τ sig (Elt F)) : (Proc.devRef .tc main_v3 : DevRef τ sig).ty.Contents (Elt F) :=
  broadcastInDim S2048x1 ![0] bcast_S2048_S2048x1_0 (Host.reduce FloatOps.minimumf (V0 (Proc.devRef .tc main_arg1)) (constant S_ .f32 0x7F800000#32) reducesTo_S2048x2048_S2048_d1 h_S_)

set_option maxRecDepth 8192 in
/-- `main_v6`'s composed term of the arguments (named: it is used 2 times). -/
def res_main_v6 (V0 : Valuation τ sig (Elt F)) : (Proc.devRef .tc main_v6 : DevRef τ sig).ty.Contents (Elt F) :=
  Host.divf (addf (res_main_v1 V0) (res_main_v3 V0)) (broadcastInDim S2048x1 ![] bcast_S_S2048x1 (constant S_ .f32 0x40000000#32))

set_option maxRecDepth 8192 in
/-- `main_v9`'s composed term of the arguments (named: it is used 2 times). -/
def res_main_v9 (V0 : Valuation τ sig (Elt F)) : (Proc.devRef .tc main_v9 : DevRef τ sig).ty.Contents (Elt F) :=
  Host.divf (subf (res_main_v1 V0) (res_main_v3 V0)) (broadcastInDim S2048x1 ![] bcast_S_S2048x1 (constant S_ .f32 0x40000000#32))

set_option maxRecDepth 8192 in
/-- `main_v20`'s composed term of the arguments (named: it is used 2 times). -/
def res_main_v20 (V0 : Valuation τ sig (Elt F)) : (Proc.devRef .tc main_v20 : DevRef τ sig).ty.Contents (Elt F) :=
  Host.absf (subf (broadcastInDim S4194304x16 ![0, 1] bcast_S4194304x1_S4194304x16_0_1 (broadcastInDim S4194304x1 ![0] bcast_S4194304_S4194304x1_0 (shapeCast _ (Host.divf (subf (V0 (Proc.devRef .tc main_arg1)) (broadcastInDim S2048x2048 ![0, 1] bcast_S2048x1_S2048x2048_0_1 (res_main_v6 V0))) (broadcastInDim S2048x2048 ![0, 1] bcast_S2048x1_S2048x2048_0_1 (res_main_v9 V0))) shapeCasts_S2048x2048_S4194304))) (broadcastInDim S4194304x16 ![0, 1] bcast_S1x16_S4194304x16_0_1 (broadcastInDim S1x16 ![1] bcast_S16_S1x16_1 (V0 (Proc.devRef .tc main_arg2)))))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S4194304x16 32 1

set_option maxRecDepth 8192 in
/-- `main_call0_cst`'s composed term of the arguments (named: it is used 2 times). -/
def res_main_call0_cst (V0 : Valuation τ sig (Elt F)) : (Proc.devRef .tc main_call0_cst : DevRef τ sig).ty.Contents (Elt F) :=
  constant S_ .f32 0x7F800000#32

set_option maxRecDepth 8192 in
/-- `main_call0_c`'s composed term of the arguments (named: it is used 2 times). -/
def res_main_call0_c (V0 : Valuation τ sig (Elt F)) : (Proc.devRef .tc main_call0_c : DevRef τ sig).ty.Contents (Elt F) :=
  constantI S_ 32 0#32

set_option maxRecDepth 8192 in
/-- `main_v21`'s composed term of the arguments (named: it is used 3 times). -/
def res_main_v21 (V0 : Valuation τ sig (Elt F)) : (Proc.devRef .tc main_v21 : DevRef τ sig).ty.Contents (Elt F) :=
  (fun j => (Host.argReduce reducer_argmin_f32_i32 (res_main_v20 V0) (res_main_call0_v0 V0) (res_main_call0_cst V0) (res_main_call0_c V0) reducesTo_S4194304x16_S4194304_d1 h_S_ j).2)

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  broadcastInDim S4194304x1 ![0] bcast_S4194304_S4194304x1_0 (select (cmpi .slt (res_main_v21 V0) (broadcastInDim S4194304 ![] bcast_S_S4194304 (constantI S_ 32 0#32))) (addi (res_main_v21 V0) (broadcastInDim S4194304 ![] bcast_S_S4194304 (constantI S_ 32 16#32))) (res_main_v21 V0))

set_option maxRecDepth 8192 in
/-- `main_v23`'s composed term of the arguments (named: it is used 4 times). -/
def res_main_v23 (V0 : Valuation τ sig (Elt F)) : (Proc.devRef .tc main_v23 : DevRef τ sig).ty.Contents (Elt F) :=
  shapeCast _ (select (Host.reduce IntOp.andi (andi (cmpi .sge (res_main_call1_v5 V0) (broadcastInDim S4194304x1 ![] bcast_S_S4194304x1 (constantI S_ 32 0#32))) (cmpi .sle (res_main_call1_v5 V0) (broadcastInDim S4194304x1 ![0, 1] bcast_S1x1_S4194304x1_0_1 (broadcastInDim S1x1 ![1] bcast_S1_S1x1_1 (constantI S1 32 15#32))))) (constantI S_ 1 1#1) reducesTo_S4194304x1_S4194304_d1 h_S_) (Host.gather gather_S16_S4194304x1_S4194304_n_0_n_n_0_1_1 (V0 (Proc.devRef .tc main_arg2)) (res_main_call1_v5 V0)) (broadcastInDim S4194304 ![] bcast_S_S4194304 (constant S_ .f32 0x7FC00000#32))) shapeCasts_S4194304_S2048x2048

set_option maxRecDepth 8192 in
/-- `main_v33`'s composed term of the arguments (named: it is used 2 times). -/
def res_main_v33 (V0 : Valuation τ sig (Elt F)) : (Proc.devRef .tc main_v33 : DevRef τ sig).ty.Contents (Elt F) :=
  Host.reduce FloatOps.maximumf (select (cmpf .oge (broadcastInDim S2048x2048x30 ![0, 1, 2] bcast_S2048x2048x1_S2048x2048x30_0_1_2 (broadcastInDim S2048x2048x1 ![0, 1] bcast_S2048x2048_S2048x2048x1_0_1 (Host.absf (res_main_v23 V0)))) (broadcastInDim S2048x2048x30 ![0, 1, 2] bcast_S1x1x30_S2048x2048x30_0_1_2 (broadcastInDim S1x1x30 ![2] bcast_S30_S1x1x30_2 (res_main_cst V0)))) (broadcastInDim S2048x2048x30 ![2] bcast_S30_S2048x2048x30_2 (mulf (res_main_cst V0) (broadcastInDim S30 ![] bcast_S_S30 (constant S_ .f32 0x3A800000#32)))) (broadcastInDim S2048x2048x30 ![] bcast_S_S2048x2048x30 (id (constant S_ .f32 0x33800000#32)))) (constant S_ .f32 0xFF800000#32) reducesTo_S2048x2048x30_S2048x2048_d2 h_S_

set_option maxRecDepth 8192 in
/-- `main_v46`'s composed term of the arguments (named: it is used 3 times). -/
def res_main_v46 (V0 : Valuation τ sig (Elt F)) : (Proc.devRef .tc main_v46 : DevRef τ sig).ty.Contents (Elt F) :=
  addf (mulf (select (cmpf .oge (res_main_v23 V0) (broadcastInDim S2048x2048 ![] bcast_S_S2048x2048 (constant S_ .f32 0x477FF000#32))) (broadcastInDim S2048x2048 ![] bcast_S_S2048x2048 (id (constant S_ .f32 0x7F800000#32))) (select (cmpf .ole (res_main_v23 V0) (broadcastInDim S2048x2048 ![] bcast_S_S2048x2048 (constant S_ .f32 0xC77FF000#32))) (broadcastInDim S2048x2048 ![] bcast_S_S2048x2048 (id (constant S_ .f32 0xFF800000#32))) (mulf (Host.roundeven (Host.divf (res_main_v23 V0) (res_main_v33 V0))) (res_main_v33 V0)))) (broadcastInDim S2048x2048 ![0, 1] bcast_S2048x1_S2048x2048_0_1 (res_main_v9 V0))) (broadcastInDim S2048x2048 ![0, 1] bcast_S2048x1_S2048x2048_0_1 (res_main_v6 V0))

set_option maxRecDepth 8192 in
/-- `main_call6_v2`'s composed term of the arguments (named: it is used 2 times). -/
def res_main_call6_v2 (V0 : Valuation τ sig (Elt F)) : (Proc.devRef .tc main_call6_v2 : DevRef τ sig).ty.Contents (Elt F) :=
  select (cmpf .une (res_main_v46 V0) (res_main_v46 V0)) (broadcastInDim S2048x2048 ![] bcast_S_S2048x2048 (id (constant S_ .f32 0x00000000#32))) (res_main_v46 V0)

set_option maxRecDepth 8192 in
/-- `main_call6_v6`'s composed term of the arguments (named: it is used 2 times). -/
def res_main_call6_v6 (V0 : Valuation τ sig (Elt F)) : (Proc.devRef .tc main_call6_v6 : DevRef τ sig).ty.Contents (Elt F) :=
  select (cmpf .oeq (res_main_call6_v2 V0) (broadcastInDim S2048x2048 ![] bcast_S_S2048x2048 (constant S_ .f32 0x7F800000#32))) (broadcastInDim S2048x2048 ![] bcast_S_S2048x2048 (id (constant S_ .f32 0x00000000#32))) (res_main_call6_v2 V0)

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_cst, main_cst_0, main_v0, main_v1, main_cst_1, main_v2, main_v3, main_v4, main_cst_2, main_v5, main_v6, main_v7, main_cst_3, main_v8, main_v9, main_v10, main_v11, main_v12, main_v13, main_v14, main_v15, main_v16, main_v17, main_v18, main_v19, main_v20, main_call0_v0, main_call0_cst, main_call0_c, main_call0_v1_0]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
theorem val0_1_main_arg2 (V0 : Valuation τ sig (Elt F)) : val0_1 V0 (no_index (Proc.devRef .tc main_arg2)) = V0 (Proc.devRef .tc main_arg2) :=
  (val0_1_keep V0 main_arg2 (by decide)).trans (val0_main_arg2 V0)
set_option maxRecDepth 8192 in
set_option maxHeartbeats 2000000 in
theorem val0_1_main_cst (V0 : Valuation τ sig (Elt F)) : val0_1 V0 (no_index (Proc.devRef .tc main_cst)) = res_main_cst V0 := by
  unfold val0_1
  simp only [ops_part0_0, TRef.nullary, TRef.quaternary, TRef.toBuf, TRef.ofBuf, cast_eq]
  after_results_simp
  all_goals rfl
set_option maxRecDepth 8192 in
set_option maxHeartbeats 2000000 in
theorem val0_1_main_v6 (V0 : Valuation τ sig (Elt F)) : val0_1 V0 (no_index (Proc.devRef .tc main_v6)) = res_main_v6 V0 := by
  unfold val0_1
  simp only [ops_part0_0, TRef.nullary, TRef.quaternary, TRef.toBuf, TRef.ofBuf, cast_eq]
  after_results_simp
  simp only [val0_main_arg1] <;> rfl
set_option maxRecDepth 8192 in
set_option maxHeartbeats 2000000 in
theorem val0_1_main_v9 (V0 : Valuation τ sig (Elt F)) : val0_1 V0 (no_index (Proc.devRef .tc main_v9)) = res_main_v9 V0 := by
  unfold val0_1
  simp only [ops_part0_0, TRef.nullary, TRef.quaternary, TRef.toBuf, TRef.ofBuf, cast_eq]
  after_results_simp
  simp only [val0_main_arg1] <;> rfl
set_option maxRecDepth 8192 in
set_option maxHeartbeats 2000000 in
theorem val0_1_main_v20 (V0 : Valuation τ sig (Elt F)) : val0_1 V0 (no_index (Proc.devRef .tc main_v20)) = res_main_v20 V0 := by
  unfold val0_1
  simp only [ops_part0_0, TRef.nullary, TRef.quaternary, TRef.toBuf, TRef.ofBuf, cast_eq]
  after_results_simp
  simp only [val0_main_arg2, val0_main_arg1] <;> rfl
set_option maxRecDepth 8192 in
set_option maxHeartbeats 2000000 in
theorem val0_1_main_call0_v0 (V0 : Valuation τ sig (Elt F)) : val0_1 V0 (no_index (Proc.devRef .tc main_call0_v0)) = res_main_call0_v0 V0 := by
  unfold val0_1
  simp only [ops_part0_0, TRef.nullary, TRef.quaternary, TRef.toBuf, TRef.ofBuf, cast_eq]
  after_results_simp
  all_goals rfl
set_option maxRecDepth 8192 in
set_option maxHeartbeats 2000000 in
theorem val0_1_main_call0_cst (V0 : Valuation τ sig (Elt F)) : val0_1 V0 (no_index (Proc.devRef .tc main_call0_cst)) = res_main_call0_cst V0 := by
  unfold val0_1
  simp only [ops_part0_0, TRef.nullary, TRef.quaternary, TRef.toBuf, TRef.ofBuf, cast_eq]
  after_results_simp
  all_goals rfl
set_option maxRecDepth 8192 in
set_option maxHeartbeats 2000000 in
theorem val0_1_main_call0_c (V0 : Valuation τ sig (Elt F)) : val0_1 V0 (no_index (Proc.devRef .tc main_call0_c)) = res_main_call0_c V0 := by
  unfold val0_1
  simp only [ops_part0_0, TRef.nullary, TRef.quaternary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v21, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v22, main_v23, main_v24, main_v25, main_v26, main_v27, main_v28, main_v29]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_arg2 (V0 : Valuation τ sig (Elt F)) : val0_2 V0 (no_index (Proc.devRef .tc main_arg2)) = V0 (Proc.devRef .tc main_arg2) :=
  (val0_2_keep V0 main_arg2 (by decide)).trans (val0_1_main_arg2 V0)
theorem val0_2_main_cst (V0 : Valuation τ sig (Elt F)) : val0_2 V0 (no_index (Proc.devRef .tc main_cst)) = res_main_cst V0 :=
  (val0_2_keep V0 main_cst (by decide)).trans (val0_1_main_cst V0)
theorem val0_2_main_v6 (V0 : Valuation τ sig (Elt F)) : val0_2 V0 (no_index (Proc.devRef .tc main_v6)) = res_main_v6 V0 :=
  (val0_2_keep V0 main_v6 (by decide)).trans (val0_1_main_v6 V0)
theorem val0_2_main_v9 (V0 : Valuation τ sig (Elt F)) : val0_2 V0 (no_index (Proc.devRef .tc main_v9)) = res_main_v9 V0 :=
  (val0_2_keep V0 main_v9 (by decide)).trans (val0_1_main_v9 V0)
set_option maxRecDepth 8192 in
set_option maxHeartbeats 2000000 in
theorem val0_2_main_v23 (V0 : Valuation τ sig (Elt F)) : val0_2 V0 (no_index (Proc.devRef .tc main_v23)) = res_main_v23 V0 := by
  unfold val0_2
  simp only [ops_part0_1, TRef.binary, TRef.nullary, TRef.quaternary, TRef.ternary, TRef.unary, TRef.toBuf, TRef.ofBuf, cast_eq]
  after_results_simp
  simp only [val0_1_main_call0_c, val0_1_main_call0_cst, val0_1_main_call0_v0, val0_1_main_v20, val0_1_main_arg2] <;> rfl
set_option maxRecDepth 8192 in
set_option maxHeartbeats 2000000 in
theorem val0_2_main_v29 (V0 : Valuation τ sig (Elt F)) : val0_2 V0 (no_index (Proc.devRef .tc main_v29)) = cmpf .oge (broadcastInDim S2048x2048x30 ![0, 1, 2] bcast_S2048x2048x1_S2048x2048x30_0_1_2 (broadcastInDim S2048x2048x1 ![0, 1] bcast_S2048x2048_S2048x2048x1_0_1 (Host.absf (res_main_v23 V0)))) (broadcastInDim S2048x2048x30 ![0, 1, 2] bcast_S1x1x30_S2048x2048x30_0_1_2 (broadcastInDim S1x1x30 ![2] bcast_S30_S1x1x30_2 (res_main_cst V0))) := by
  unfold val0_2
  simp only [ops_part0_1, TRef.binary, TRef.nullary, TRef.quaternary, TRef.ternary, TRef.unary, TRef.toBuf, TRef.ofBuf, cast_eq]
  after_results_simp
  simp only [val0_1_main_cst, val0_1_main_call0_c, val0_1_main_call0_cst, val0_1_main_call0_v0, val0_1_main_v20, val0_1_main_arg2] <;> rfl

/-- The device's buffer contents after @main's first 90 operations. -/
def val0_3 (V0 : Valuation τ sig (Elt F)) : Valuation τ sig (Elt F) := after ops_part0_2 (val0_2 V0)
/-- The buffers that window `ops_part0_2`'s operations write. -/
abbrev ops_part0_2_W : List (Ref sig .tc) := [main_cst_4, main_v30, main_v31, main_cst_5, main_call2_v0, main_call2_v1, main_call2_v2, main_v32, main_cst_6, main_v33, main_v34, main_v35, main_v36, main_cst_7, main_v37, main_v38, main_cst_8, main_v39, main_v40, main_cst_9, main_call4_v0, main_call4_v1, main_v41, main_cst_10, main_call5_v0, main_call5_v1, main_v42, main_v43, main_v44, main_v45]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val0_3_keep (V0 : Valuation τ sig (Elt F)) (r : Ref sig .tc) (h : r ∉ ops_part0_2_W) :
    val0_3 V0 (Proc.devRef .tc r) = val0_2 V0 (Proc.devRef .tc r) :=
  after_of_writes_sub ops_part0_2 _ ops_part0_2_writes h
theorem val0_3_main_arg0 (V0 : Valuation τ sig (Elt F)) : val0_3 V0 (no_index (Proc.devRef .tc main_arg0)) = V0 (Proc.devRef .tc main_arg0) :=
  (val0_3_keep V0 main_arg0 (by decide)).trans (val0_2_main_arg0 V0)
theorem val0_3_main_arg1 (V0 : Valuation τ sig (Elt F)) : val0_3 V0 (no_index (Proc.devRef .tc main_arg1)) = V0 (Proc.devRef .tc main_arg1) :=
  (val0_3_keep V0 main_arg1 (by decide)).trans (val0_2_main_arg1 V0)
theorem val0_3_main_arg2 (V0 : Valuation τ sig (Elt F)) : val0_3 V0 (no_index (Proc.devRef .tc main_arg2)) = V0 (Proc.devRef .tc main_arg2) :=
  (val0_3_keep V0 main_arg2 (by decide)).trans (val0_2_main_arg2 V0)
set_option maxRecDepth 8192 in
set_option maxHeartbeats 2000000 in
theorem val0_3_main_v44 (V0 : Valuation τ sig (Elt F)) : val0_3 V0 (no_index (Proc.devRef .tc main_v44)) = mulf (select (cmpf .oge (res_main_v23 V0) (broadcastInDim S2048x2048 ![] bcast_S_S2048x2048 (constant S_ .f32 0x477FF000#32))) (broadcastInDim S2048x2048 ![] bcast_S_S2048x2048 (id (constant S_ .f32 0x7F800000#32))) (select (cmpf .ole (res_main_v23 V0) (broadcastInDim S2048x2048 ![] bcast_S_S2048x2048 (constant S_ .f32 0xC77FF000#32))) (broadcastInDim S2048x2048 ![] bcast_S_S2048x2048 (id (constant S_ .f32 0xFF800000#32))) (mulf (Host.roundeven (Host.divf (res_main_v23 V0) (res_main_v33 V0))) (res_main_v33 V0)))) (broadcastInDim S2048x2048 ![0, 1] bcast_S2048x1_S2048x2048_0_1 (res_main_v9 V0)) := by
  unfold val0_3
  simp only [ops_part0_2, TRef.ternary, TRef.unary, TRef.toBuf, TRef.ofBuf, cast_eq]
  after_results_simp
  simp only [val0_2_main_v9, val0_2_main_cst, val0_2_main_v29, val0_2_main_v23] <;> rfl
set_option maxRecDepth 8192 in
set_option maxHeartbeats 2000000 in
theorem val0_3_main_v45 (V0 : Valuation τ sig (Elt F)) : val0_3 V0 (no_index (Proc.devRef .tc main_v45)) = broadcastInDim S2048x2048 ![0, 1] bcast_S2048x1_S2048x2048_0_1 (res_main_v6 V0) := by
  unfold val0_3
  simp only [ops_part0_2, TRef.ternary, TRef.unary, TRef.toBuf, TRef.ofBuf, cast_eq]
  after_results_simp
  simp only [val0_2_main_v6] <;> rfl

/-- The device's buffer contents after @main's first 1 window. -/
def val1 (V0 : Valuation τ sig (Elt F)) : Valuation τ sig (Elt F) := after ops_part0_3 (val0_3 V0)
/-- The buffers that window `ops_part0_3`'s operations write. -/
abbrev ops_part0_3_W : List (Ref sig .tc) := [main_v46, main_cst_11]
set_option maxRecDepth 8192 in
theorem ops_part0_3_writes : (ops_part0_3 : List (HloOp τ sig (Elt F))).Forall fun op => op.writes ⊆ (ops_part0_3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_3` does not write keeps its contents through it. -/
theorem val1_keep (V0 : Valuation τ sig (Elt F)) (r : Ref sig .tc) (h : r ∉ ops_part0_3_W) :
    val1 V0 (Proc.devRef .tc r) = val0_3 V0 (Proc.devRef .tc r) :=
  after_of_writes_sub ops_part0_3 _ ops_part0_3_writes h
theorem val1_main_arg0 (V0 : Valuation τ sig (Elt F)) : val1 V0 (no_index (Proc.devRef .tc main_arg0)) = V0 (Proc.devRef .tc main_arg0) :=
  (val1_keep V0 main_arg0 (by decide)).trans (val0_3_main_arg0 V0)
theorem val1_main_arg1 (V0 : Valuation τ sig (Elt F)) : val1 V0 (no_index (Proc.devRef .tc main_arg1)) = V0 (Proc.devRef .tc main_arg1) :=
  (val1_keep V0 main_arg1 (by decide)).trans (val0_3_main_arg1 V0)
theorem val1_main_arg2 (V0 : Valuation τ sig (Elt F)) : val1 V0 (no_index (Proc.devRef .tc main_arg2)) = V0 (Proc.devRef .tc main_arg2) :=
  (val1_keep V0 main_arg2 (by decide)).trans (val0_3_main_arg2 V0)
set_option maxRecDepth 8192 in
theorem val1_main_v46 (V0 : Valuation τ sig (Elt F)) : val1 V0 (no_index (Proc.devRef .tc main_v46)) = res_main_v46 V0 := by
  unfold val1
  simp only [ops_part0_3]
  after_results_simp
  simp only [val0_3_main_v45, val0_3_main_v44] <;> rfl
set_option maxRecDepth 8192 in
theorem val1_main_cst_11 (V0 : Valuation τ sig (Elt F)) : val1 V0 (no_index (Proc.devRef .tc main_cst_11)) = constant S_ .f32 0x00000000#32 := by
  unfold val1
  simp only [ops_part0_3]
  after_results_simp
  all_goals rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_12, main_cst_13, main_call6_v0, main_call6_v1, main_call6_call0_v0, main_call6_v2, main_call6_cst, main_call6_v3, main_call6_v4, main_call6_v5, main_call6_call1_v0, main_call6_v6, main_call6_cst_0, main_call6_v7, main_call6_v8, main_call6_v9, main_call6_call2_v0, main_v47, main_v48, main_v49]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
set_option maxRecDepth 8192 in
set_option maxHeartbeats 2000000 in
theorem val2_main_v49 (V0 : Valuation τ sig (Elt F)) : val2 V0 (no_index (Proc.devRef .tc main_v49)) = Host.dotGeneral dot_S4096x2048_S2048x2048_S4096x2048_1_0_0_1_n_n none (V0 (Proc.devRef .tc main_arg0)) (transpose S2048x2048 [1, 0] (select (cmpf .oeq (res_main_call6_v6 V0) (broadcastInDim S2048x2048 ![] bcast_S_S2048x2048 (constant S_ .f32 0xFF800000#32))) (broadcastInDim S2048x2048 ![] bcast_S_S2048x2048 (id (constant S_ .f32 0x00000000#32))) (res_main_call6_v6 V0)) transposes_S2048x2048_S2048x2048_1_0) := by
  unfold val2
  simp only [ops_part1, TRef.binary, TRef.nullary, TRef.ternary, TRef.unary, TRef.toBuf, TRef.ofBuf, cast_eq]
  after_results_simp
  simp only [val1_main_v46, val1_main_cst_11, val1_main_arg0] <;> rfl

theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = Host.dotGeneral dot_S4096x2048_S2048x2048_S4096x2048_1_0_0_1_n_n none ((launchContents m c) (Proc.devRef .tc main_arg0)) (transpose S2048x2048 [1, 0] (select (cmpf .oeq (res_main_call6_v6 (launchContents m c)) (broadcastInDim S2048x2048 ![] bcast_S_S2048x2048 (constant S_ .f32 0xFF800000#32))) (broadcastInDim S2048x2048 ![] bcast_S_S2048x2048 (id (constant S_ .f32 0x00000000#32))) (res_main_call6_v6 (launchContents m c))) transposes_S2048x2048_S2048x2048_1_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v49).trans ((congrFun (after_ops (launchContents m c)) (Proc.devRef .tc main_v49)).trans (val2_main_v49 (launchContents m c))),
      (h c main_arg0).trans ((congrFun (after_ops (launchContents m c)) (Proc.devRef .tc main_arg0)).trans (val2_main_arg0 (launchContents m c))),
      (h c main_arg1).trans ((congrFun (after_ops (launchContents m c)) (Proc.devRef .tc main_arg1)).trans (val2_main_arg1 (launchContents m c))),
      (h c main_arg2).trans ((congrFun (after_ops (launchContents m c)) (Proc.devRef .tc main_arg2)).trans (val2_main_arg2 (launchContents m c)))⟩)
    (run_seq scopedRefs_eq scopedSems_eq defs main (fun _ => ops) main_eq (fun _ => ops_sub) m ρ fun _ => ops_fresh)

end Cert.ReferenceIdeal.Value

end
-- ==== Proof.RefTerm.lean ====
/- The reference's quantised weight as a chain of whole-array terms over the weight and the table alone. -/
module

public import proofs.«01_k».proof.Proof.RefRun
public import Idealize.ShloMosaic.Lib.Pointwise

@[expose] public section

set_option maxRecDepth 16384

noncomputable section

namespace Cert.RefTerm

open Idealize.ShloMosaic Cert.ReferenceIdeal Cert.ReferenceIdeal.Gen

/-- The table of binades. -/
def binades : FVec Ideal S30 .f32 :=
  (fun i => FloatOps.ofBits .f32 (lit0 (S30.rowMajor i)))

/-- The greatest entry of every row of the weight. -/
def greatest (w : FVec Ideal S2048x2048 .f32) : FVec Ideal S2048x1 .f32 :=
  broadcastInDim S2048x1 ![0] bcast_S2048_S2048x1_0 (Host.reduce (FloatOps.maximumf (F := Ideal)) w (constant (F := Ideal) S_ .f32 0xFF800000#32) reducesTo_S2048x2048_S2048_d1 h_S_)

/-- The least entry of every row. -/
def least (w : FVec Ideal S2048x2048 .f32) : FVec Ideal S2048x1 .f32 :=
  broadcastInDim S2048x1 ![0] bcast_S2048_S2048x1_0 (Host.reduce (FloatOps.minimumf (F := Ideal)) w (constant (F := Ideal) S_ .f32 0x7F800000#32) reducesTo_S2048x2048_S2048_d1 h_S_)

/-- The middle of every row. -/
def middle (g : FVec Ideal S2048x1 .f32) (l : FVec Ideal S2048x1 .f32) : FVec Ideal S2048x1 .f32 :=
  Host.divf (addf g l) (broadcastInDim S2048x1 ![] bcast_S_S2048x1 (constant (F := Ideal) S_ .f32 0x40000000#32))

/-- Half the width of every row. -/
def width (g : FVec Ideal S2048x1 .f32) (l : FVec Ideal S2048x1 .f32) : FVec Ideal S2048x1 .f32 :=
  Host.divf (subf g l) (broadcastInDim S2048x1 ![] bcast_S_S2048x1 (constant (F := Ideal) S_ .f32 0x40000000#32))

/-- The distance of every scaled entry from every entry of the table. -/
def distances (w : FVec Ideal S2048x2048 .f32) (t : FVec Ideal S16 .f32) (M : FVec Ideal S2048x1 .f32) (R : FVec Ideal S2048x1 .f32) : FVec Ideal S4194304x16 .f32 :=
  Host.absf (subf (broadcastInDim S4194304x16 ![0, 1] bcast_S4194304x1_S4194304x16_0_1 (broadcastInDim S4194304x1 ![0] bcast_S4194304_S4194304x1_0 (shapeCast S4194304 (Host.divf (subf w (broadcastInDim S2048x2048 ![0, 1] bcast_S2048x1_S2048x2048_0_1 M)) (broadcastInDim S2048x2048 ![0, 1] bcast_S2048x1_S2048x2048_0_1 R)) shapeCasts_S2048x2048_S4194304))) (broadcastInDim S4194304x16 ![0, 1] bcast_S1x16_S4194304x16_0_1 (broadcastInDim S1x16 ![1] bcast_S16_S1x16_1 t)))

/-- The place of the least distance. -/
def places (d : FVec Ideal S4194304x16 .f32) : IVec S4194304 32 :=
  (fun j => (Host.argReduce reducer_argmin_f32_i32 d (iotaInDim S4194304x16 32 1) (constant (F := Ideal) S_ .f32 0x7F800000#32) (constantI S_ 32 0#32) reducesTo_S4194304x16_S4194304_d1 h_S_ j).2)

/-- The places, a negative one counted from the end. -/
def wrapped (p : IVec S4194304 32) : IVec S4194304x1 32 :=
  broadcastInDim S4194304x1 ![0] bcast_S4194304_S4194304x1_0 (select (cmpi .slt p (broadcastInDim S4194304 ![] bcast_S_S4194304 (constantI S_ 32 0#32))) (addi p (broadcastInDim S4194304 ![] bcast_S_S4194304 (constantI S_ 32 16#32))) p)

/-- The table read at the places, the weight's entries in a line. -/
def taken (t : FVec Ideal S16 .f32) (q : IVec S4194304x1 32) : FVec Ideal S4194304 .f32 :=
  select (Host.reduce IntOp.andi (andi (cmpi .sge q (broadcastInDim S4194304x1 ![] bcast_S_S4194304x1 (constantI S_ 32 0#32))) (cmpi .sle q (broadcastInDim S4194304x1 ![0, 1] bcast_S1x1_S4194304x1_0_1 (broadcastInDim S1x1 ![1] bcast_S1_S1x1_1 (constantI S1 32 15#32))))) (constantI S_ 1 1#1) reducesTo_S4194304x1_S4194304_d1 h_S_) (Host.gather gather_S16_S4194304x1_S4194304_n_0_n_n_0_1_1 t q) (broadcastInDim S4194304 ![] bcast_S_S4194304 (constant (F := Ideal) S_ .f32 0x7FC00000#32))

/-- The same, in the weight's shape. -/
def poles (v : FVec Ideal S4194304 .f32) : FVec Ideal S2048x2048 .f32 :=
  shapeCast S2048x2048 v shapeCasts_S4194304_S2048x2048

/-- The float16 spacing around every pole found. -/
def spacings (f : FVec Ideal S2048x2048 .f32) : FVec Ideal S2048x2048 .f32 :=
  Host.reduce (FloatOps.maximumf (F := Ideal)) (select (cmpf .oge (broadcastInDim S2048x2048x30 ![0, 1, 2] bcast_S2048x2048x1_S2048x2048x30_0_1_2 (broadcastInDim S2048x2048x1 ![0, 1] bcast_S2048x2048_S2048x2048x1_0_1 (Host.absf f))) (broadcastInDim S2048x2048x30 ![0, 1, 2] bcast_S1x1x30_S2048x2048x30_0_1_2 (broadcastInDim S1x1x30 ![2] bcast_S30_S1x1x30_2 binades))) (broadcastInDim S2048x2048x30 ![2] bcast_S30_S2048x2048x30_2 (mulf binades (broadcastInDim S30 ![] bcast_S_S30 (constant (F := Ideal) S_ .f32 0x3A800000#32)))) (broadcastInDim S2048x2048x30 ![] bcast_S_S2048x2048x30 (id (constant (F := Ideal) S_ .f32 0x33800000#32)))) (constant (F := Ideal) S_ .f32 0xFF800000#32) reducesTo_S2048x2048x30_S2048x2048_d2 h_S_

/-- The rounded poles, scaled and moved back. -/
def moved (f : FVec Ideal S2048x2048 .f32) (s : FVec Ideal S2048x2048 .f32) (M : FVec Ideal S2048x1 .f32) (R : FVec Ideal S2048x1 .f32) : FVec Ideal S2048x2048 .f32 :=
  addf (mulf (select (cmpf .oge f (broadcastInDim S2048x2048 ![] bcast_S_S2048x2048 (constant (F := Ideal) S_ .f32 0x477FF000#32))) (broadcastInDim S2048x2048 ![] bcast_S_S2048x2048 (id (constant (F := Ideal) S_ .f32 0x7F800000#32))) (select (cmpf .ole f (broadcastInDim S2048x2048 ![] bcast_S_S2048x2048 (constant (F := Ideal) S_ .f32 0xC77FF000#32))) (broadcastInDim S2048x2048 ![] bcast_S_S2048x2048 (id (constant (F := Ideal) S_ .f32 0xFF800000#32))) (mulf (Host.roundeven (Host.divf f s)) s))) (broadcastInDim S2048x2048 ![0, 1] bcast_S2048x1_S2048x2048_0_1 R)) (broadcastInDim S2048x2048 ![0, 1] bcast_S2048x1_S2048x2048_0_1 M)

/-- The same with zero for an entry unequal to itself. -/
def noNaN (y : FVec Ideal S2048x2048 .f32) : FVec Ideal S2048x2048 .f32 :=
  select (cmpf .une y y) (broadcastInDim S2048x2048 ![] bcast_S_S2048x2048 (id (constant (F := Ideal) S_ .f32 0x00000000#32))) y

/-- The same with zero for plus infinity. -/
def noPosInf (y : FVec Ideal S2048x2048 .f32) : FVec Ideal S2048x2048 .f32 :=
  select (cmpf .oeq y (broadcastInDim S2048x2048 ![] bcast_S_S2048x2048 (constant (F := Ideal) S_ .f32 0x7F800000#32))) (broadcastInDim S2048x2048 ![] bcast_S_S2048x2048 (id (constant (F := Ideal) S_ .f32 0x00000000#32))) y

/-- The same with zero for minus infinity. -/
def noNegInf (y : FVec Ideal S2048x2048 .f32) : FVec Ideal S2048x2048 .f32 :=
  select (cmpf .oeq y (broadcastInDim S2048x2048 ![] bcast_S_S2048x2048 (constant (F := Ideal) S_ .f32 0xFF800000#32))) (broadcastInDim S2048x2048 ![] bcast_S_S2048x2048 (id (constant (F := Ideal) S_ .f32 0x00000000#32))) y

/-- The middle of every row of the weight. -/
def middleOf (w : FVec Ideal S2048x2048 .f32) : FVec Ideal S2048x1 .f32 := middle (greatest w) (least w)

/-- Half the width of every row of the weight. -/
def widthOf (w : FVec Ideal S2048x2048 .f32) : FVec Ideal S2048x1 .f32 := width (greatest w) (least w)

/-- The pole found for every entry of the weight. -/
def found (w : FVec Ideal S2048x2048 .f32) (t : FVec Ideal S16 .f32) : FVec Ideal S2048x2048 .f32 :=
  poles (taken t (wrapped (places (distances w t (middleOf w) (widthOf w)))))

/-- The quantised weight. -/
def quantised (w : FVec Ideal S2048x2048 .f32) (t : FVec Ideal S16 .f32) : FVec Ideal S2048x2048 .f32 :=
  noNegInf (noPosInf (noNaN (moved (found w t) (spacings (found w t)) (middleOf w) (widthOf w))))

/-- The reference's result: the input times the transpose of a weight `v`. -/
def product (v : FVec Ideal S2048x2048 .f32) (x : FVec Ideal S4096x2048 .f32) : FVec Ideal S4096x2048 .f32 :=
  Host.dotGeneral dot_S4096x2048_S2048x2048_S4096x2048_1_0_0_1_n_n none x (transpose S2048x2048 [1, 0] v transposes_S2048x2048_S2048x2048_1_0)

open StableHlo Idealize.SL.Sem in
/-- THE REFERENCE'S RUN: every execution ends with the result buffer at the input times the quantised weight, the arguments
    unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v49)
        = product (quantised (m ((c.tc : Thread nD τ).loc main_arg1)) (m ((c.tc : Thread nD τ).loc main_arg2))) (m ((c.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.RefTerm

end
-- ==== Proof.Argmin.lean ====
/- The reference's search over the table: the place of the first least entry along the table axis, and the table read
   at that place. -/
module

public import proofs.«01_k».proof.Defs
public import Idealize.ShloMosaic.Lib.Pointwise
public import Idealize.ShloMosaic.Lib.Routing.OpsSearch

@[expose] public section

set_option maxRecDepth 16384

noncomputable section

namespace Cert.Argmin

open Idealize.ShloMosaic Cert.ReferenceIdeal

/-- The reduction's step over the extended reals: the smaller value with its index, the smaller index at a tie. -/
theorem step_eq (a b : Ideal .f32 × BitVec 32) :
    reducer_argmin_f32_i32 (F := Ideal) a b
      = ((if (a.1 : EReal) < b.1 then a.1 else b.1),
         if (a.1 : EReal) < b.1 ∨ ((a.1 : EReal) = b.1 ∧ a.2.slt b.2 = true) then a.2 else b.2) := by
  unfold reducer_argmin_f32_i32
  by_cases h : (a.1 : EReal) < b.1
  · simp [Ideal.cmpf_def, Ideal.cmp, h, h.ne, IntOp.ori, IntOp.andi, IntOp.cmpi, Scalar.select]
  · by_cases h' : (a.1 : EReal) = b.1
    · by_cases h'' : a.2.slt b.2 = true
      · simp [Ideal.cmpf_def, Ideal.cmp, h, h', h'', IntOp.ori, IntOp.andi, IntOp.cmpi, Scalar.select]
      · simp [Ideal.cmpf_def, Ideal.cmp, h, h', h'', IntOp.ori, IntOp.andi, IntOp.cmpi, Scalar.select]
    · simp [Ideal.cmpf_def, Ideal.cmp, h, h', IntOp.ori, IntOp.andi, IntOp.cmpi, Scalar.select]

/-- Before the least entry `p` is met, the state is above it, or already holds its value and index. -/
theorem fold_before (p : Ideal .f32 × BitVec 32) :
    ∀ (L : List (Ideal .f32 × BitVec 32)) (r : Ideal .f32 × BitVec 32), (∀ q ∈ L, (p.1 : EReal) < q.1) →
      ((p.1 : EReal) < r.1 ∨ r = p) →
      ((p.1 : EReal) < (L.foldl (reducer_argmin_f32_i32 (F := Ideal)) r).1 ∨ L.foldl (reducer_argmin_f32_i32 (F := Ideal)) r = p)
  | [], r, _, hr => hr
  | q :: L, r, hL, hr => by
    refine fold_before p L _ (fun x hx => hL x (List.mem_cons_of_mem _ hx)) ?_
    have hq := hL q List.mem_cons_self
    rw [step_eq]
    rcases hr with hr | rfl
    · left; dsimp only; split_ifs <;> assumption
    · right; rw [if_pos hq, if_pos (.inl hq)]

/-- Once the least entry `p` is held, entries that are no smaller and stand later leave it. -/
theorem fold_after (p : Ideal .f32 × BitVec 32) :
    ∀ L : List (Ideal .f32 × BitVec 32), (∀ q ∈ L, (p.1 : EReal) ≤ q.1 ∧ p.2.slt q.2 = true) →
      L.foldl (reducer_argmin_f32_i32 (F := Ideal)) p = p
  | [], _ => rfl
  | q :: L, hL => by
    have hq := hL q List.mem_cons_self
    rw [List.foldl_cons]
    have e : reducer_argmin_f32_i32 (F := Ideal) p q = p := by
      rw [step_eq]
      rcases lt_or_eq_of_le hq.1 with h | h
      · rw [if_pos h, if_pos (.inl h)]
      · rw [if_neg (by rw [h]; exact lt_irrefl _), if_pos (.inr ⟨h, hq.2⟩)]
        exact Prod.ext h.symm rfl
    rw [e]
    exact fold_after p L fun x hx => hL x (List.mem_cons_of_mem _ hx)

/-- The fold over a list that meets its least entry `p` first at the cut ends at `p`. -/
theorem fold_least (p r : Ideal .f32 × BitVec 32) (S T : List (Ideal .f32 × BitVec 32)) (hS : ∀ q ∈ S, (p.1 : EReal) < q.1)
    (hT : ∀ q ∈ T, (p.1 : EReal) ≤ q.1 ∧ p.2.slt q.2 = true) (hr : (p.1 : EReal) < r.1 ∨ r = p) :
    (S ++ p :: T).foldl (reducer_argmin_f32_i32 (F := Ideal)) r = p := by
  rw [List.foldl_append, List.foldl_cons]
  have e : reducer_argmin_f32_i32 (F := Ideal) (S.foldl (reducer_argmin_f32_i32 (F := Ideal)) r) p = p := by
    rcases fold_before p S r hS hr with h | h
    · rw [step_eq, if_neg (not_lt.mpr h.le), if_neg (by rintro (h' | h'); exacts [absurd h' (not_lt.mpr h.le), h.ne' h'.1])]
    · rw [h, step_eq, if_neg (lt_irrefl _)]
      exact Prod.ext rfl (by dsimp only; split_ifs <;> rfl)
  rw [e]
  exact fold_after p T hT

/-- The words of two places compare as the places. -/
theorem slt_places : ∀ b k : Fin 16, b < k → (BitVec.ofNat 32 b.val).slt (BitVec.ofNat 32 k.val) = true := by decide

variable [Facts]
open Facts₀ Facts

/-- THE SEARCH READ AT AN INDEX: if in row `a` place `b` holds a value below every earlier one and no greater than every
    later one, the result is the word of `b`. -/
theorem argmin_at (d : FVec Ideal S4194304x16 .f32) (inf : FVec Ideal S_ .f32) (zero : IVec S_ 32) (a : Fin 4194304) (b : Fin 16)
    (hinf : ∀ i, (inf i : EReal) = ⊤) (hzero : ∀ i, zero i = 0#32)
    (hlt : ∀ k : Fin 16, k < b → (d (ix2 a b) : EReal) < d (ix2 a k))
    (hle : ∀ k : Fin 16, b < k → (d (ix2 a b) : EReal) ≤ d (ix2 a k))
    (htop : (d (ix2 a b) : EReal) < ⊤ ∨ (b = 0 ∧ (d (ix2 a b) : EReal) = ⊤)) :
    (Host.argReduce reducer_argmin_f32_i32 d (iotaInDim S4194304x16 32 1) inf zero reducesTo_S4194304x16_S4194304_d1 h_S_ (ix1 a)).2
      = BitVec.ofNat 32 b.val := by
  rw [Ideal.argReduce_eq_reduce2, Host.reduce2_eq_foldl_fiber, hinf, hzero]
  have hdrop : ∀ i : S4194304x16.Idx, reducesTo_S4194304x16_S4194304_d1.drop i = ix1 a ↔ i 0 = a := by
    intro i
    have hv : (reducesTo_S4194304x16_S4194304_d1.drop i 0 : Nat) = i 0 := Shape.ReducesTo.drop_apply_val _ i 0
    constructor
    · intro e; rw [e] at hv; exact Fin.ext hv.symm
    · intro e; funext c; obtain rfl : c = 0 := Subsingleton.elim _ _
      exact Fin.ext (hv.trans (congrArg Fin.val e))
  set L := (List.finRange S4194304x16.numel).filter fun n => reducesTo_S4194304x16_S4194304_d1.drop (S4194304x16.rowMajor.symm n) = ix1 a with hL
  have hmem : S4194304x16.rowMajor (ix2 a b) ∈ L := by
    rw [hL, List.mem_filter]
    refine ⟨List.mem_finRange _, decide_eq_true ?_⟩
    rw [Equiv.symm_apply_apply, hdrop]; rfl
  have hpw : L.Pairwise (· < ·) := (List.pairwise_lt_finRange _).filter _
  obtain ⟨S, T, hST⟩ := List.append_of_mem hmem
  have hval : ∀ x y, (S4194304x16.rowMajor (ix2 x y)).val = x.val * 16 + y.val := fun x y => rowMajor_val2 _ 16 rfl
  have hof : ∀ n ∈ L, ∃ k : Fin 16, n = S4194304x16.rowMajor (ix2 a k) := by
    intro n hn
    rw [hL, List.mem_filter] at hn
    have h0 := (hdrop _).mp (of_decide_eq_true hn.2)
    refine ⟨S4194304x16.rowMajor.symm n 1, ?_⟩
    rw [← h0, ← eq_ix2, Equiv.apply_symm_apply]
  rw [hST, List.pairwise_append] at hpw
  obtain ⟨-, hpT, hcross⟩ := hpw
  rw [List.pairwise_cons] at hpT
  unfold Host.argReduceFiber
  rw [← hL, hST, List.map_append, List.map_cons, Equiv.symm_apply_apply]
  rw [fold_least]
  · rfl
  · intro q hq
    obtain ⟨n, hn, rfl⟩ := List.mem_map.mp hq
    obtain ⟨k, rfl⟩ := hof n (by rw [hST]; exact List.mem_append_left _ hn)
    have := hcross _ hn _ List.mem_cons_self
    rw [Equiv.symm_apply_apply]
    exact hlt k (by rw [Fin.lt_def, hval, hval] at this; rw [Fin.lt_def]; omega)
  · intro q hq
    obtain ⟨n, hn, rfl⟩ := List.mem_map.mp hq
    obtain ⟨k, rfl⟩ := hof n (by rw [hST]; exact List.mem_append_right _ (List.mem_cons_of_mem _ hn))
    have := hpT.1 _ hn
    rw [Equiv.symm_apply_apply]
    have hbk : b < k := by rw [Fin.lt_def, hval, hval] at this; rw [Fin.lt_def]; omega
    refine ⟨hle k hbk, ?_⟩
    show (BitVec.ofNat 32 b.val).slt (BitVec.ofNat 32 k.val) = true
    exact slt_places b k hbk
  · rcases htop with h | ⟨rfl, h⟩
    · exact .inl h
    · exact .inr (Prod.ext h.symm rfl)

/-- THE TABLE READ AT THE PLACE FOUND: where the index column holds the word of a place `b`, the result is the table's
    entry there. -/
theorem take_at (x : FVec Ideal S16 .f32) (idx : IVec S4194304x1 32) (a : Fin 4194304) (b : Fin 16)
    (h : idx (ix2 a 0) = BitVec.ofNat 32 b.val) :
    Host.gather gather_S16_S4194304x1_S4194304_n_0_n_n_0_1_1 x idx (ix1 a) = x (ix1 b) := by
  rw [ix1_eq_valueIdx, ix1_eq_valueIdx]
  rw [ix2_eq_valueIdx] at h
  exact Routing.take_ap _ rfl rfl rfl rfl x idx a b.isLt (by have := b.isLt; omega) h

end Cert.Argmin

end
-- ==== Proof.RefValue.lean ====
/- The reference's quantised weight read at an index: on a weight of reals and the NF4 table it is `Spec.quant` of the
   weight's row. Every step is read over any arrays it may be given, then the steps are put together. -/
module

public import proofs.«01_k».proof.Proof.RefTerm
public import proofs.«01_k».proof.Proof.Spec
public import proofs.«01_k».proof.Proof.Argmin

@[expose] public section

set_option maxRecDepth 16384

noncomputable section

namespace Cert.RefValue

open Idealize.ShloMosaic Cert.ReferenceIdeal Cert.ReferenceIdeal.Gen Cert.RefTerm Cert.Nearest Cert.Consts

/-- Row `o` of the weight. -/
def row (w : FVec Ideal S2048x2048 .f32) (o : Fin 2048) : Fin 2048 → EReal := fun k => w (ix2 o k)

/-- The flat index of entry `(o, k)`. -/
def flat (o k : Fin 2048) : Fin 4194304 := ⟨o.val * 2048 + k.val, by omega⟩

/-! ## Every step, over any arrays -/

theorem greatest_at (w : FVec Ideal S2048x2048 .f32) (o : Fin 2048) : greatest w (ix2 o 0) = Spec.top (row w o) := by
  pointwise [greatest]
  rw [negInf]; rfl

theorem least_at (w : FVec Ideal S2048x2048 .f32) (o : Fin 2048) : least w (ix2 o 0) = Spec.bottom (row w o) := by
  pointwise [least]
  rw [posInf]; rfl

theorem middle_at (g l : FVec Ideal S2048x1 .f32) (o : Fin 2048) :
    middle g l (ix2 o 0) = (g (ix2 o 0) + l (ix2 o 0)) * ((1 / 2 : ℝ) : EReal) := by
  pointwise [middle]
  rw [two, Spec.div_two]

theorem width_at (g l : FVec Ideal S2048x1 .f32) (o : Fin 2048) :
    width g l (ix2 o 0) = (g (ix2 o 0) - l (ix2 o 0)) * ((1 / 2 : ℝ) : EReal) := by
  pointwise [width]
  rw [two, Spec.div_two]

theorem distances_at (w : FVec Ideal S2048x2048 .f32) (t : FVec Ideal S16 .f32) (M R : FVec Ideal S2048x1 .f32)
    (ht : ∀ i, t (ix1 i) = ((pole i : ℝ) : EReal)) (a : Fin 4194304) (i : Fin 16) :
    distances w t M R (ix2 a i)
      = dist (Ideal.div (w (ix2 ⟨a.val / 2048, by omega⟩ ⟨a.val % 2048, by omega⟩) - M (ix2 ⟨a.val / 2048, by omega⟩ 0))
          (R (ix2 ⟨a.val / 2048, by omega⟩ 0))) i := by
  pointwise [distances]
  rw [ht]
  rfl

theorem flat_val (o k : Fin 2048) : (flat o k).val = o.val * 2048 + k.val := rfl

/-- The row and the column of a flat index. -/
theorem row_col (f o k : ℕ) (hf : f = o * 2048 + k) (hk : k < 2048) : f / 2048 = o ∧ f % 2048 = k := by omega

theorem flat_row (o k : Fin 2048) (h : (flat o k).val / 2048 < 2048) : (⟨(flat o k).val / 2048, h⟩ : Fin 2048) = o :=
  Fin.ext (row_col _ _ _ (flat_val o k) k.isLt).1

theorem flat_col (o k : Fin 2048) (h : (flat o k).val % 2048 < 2048) : (⟨(flat o k).val % 2048, h⟩ : Fin 2048) = k :=
  Fin.ext (row_col _ _ _ (flat_val o k) k.isLt).2

/-- The places as a function of the index. -/
theorem places_eq (d : FVec Ideal S4194304x16 .f32) :
    places d = fun j => (Host.argReduce reducer_argmin_f32_i32 d (iotaInDim S4194304x16 32 1)
      (constant (F := Ideal) S_ .f32 0x7F800000#32) (constantI S_ 32 0#32) reducesTo_S4194304x16_S4194304_d1 h_S_ j).2 := rfl

theorem places_at (d : FVec Ideal S4194304x16 .f32) (s : EReal) (hs : s ≠ ⊤) (a : Fin 4194304)
    (hd : ∀ i, d (ix2 a i) = dist s i) : places d (ix1 a) = BitVec.ofNat 32 (rank s).val := by
  rw [places_eq]
  refine Argmin.argmin_at d _ _ _ _ (fun _ => posInf) (fun _ => rfl) (fun i hi => ?_) (fun i hi => ?_) ?_
  · rw [hd, hd]; exact before_rank _ hs i hi
  · rw [hd, hd]; exact after_rank _ hs i hi
  · rw [hd]; exact dist_rank_lt_top _ hs

/-- A place's word is no negative number, and at most fifteen. -/
theorem place_word : ∀ b : Fin 16, IntOp.cmpi .slt (BitVec.ofNat 32 b.val) 0#32 = 0#1
    ∧ IntOp.andi (IntOp.cmpi .sge (BitVec.ofNat 32 b.val) 0#32) (IntOp.cmpi .sle (BitVec.ofNat 32 b.val) 15#32) = 1#1 := by
  decide

theorem wrapped_at (p : IVec S4194304 32) (a : Fin 4194304) (b : Fin 16) (hp : p (ix1 a) = BitVec.ofNat 32 b.val) :
    wrapped p (ix2 a 0) = BitVec.ofNat 32 b.val := by
  pointwise [wrapped]
  rw [hp, (place_word b).1]
  rfl

/-- The conjunction of a family of ones is one. -/
theorem fold_ones {ι : Type*} (s : Finset ι) (f : ι → BitVec 1) (h : ∀ x ∈ s, f x = 1#1) :
    Finset.fold IntOp.andi (1#1) f s = 1#1 := by
  classical
  induction s using Finset.induction_on with
  | empty => rfl
  | insert a s ha ih =>
    rw [Finset.fold_insert ha, h a (Finset.mem_insert_self a s), ih fun x hx => h x (Finset.mem_insert_of_mem hx)]
    rfl

theorem taken_at (t : FVec Ideal S16 .f32) (q : IVec S4194304x1 32) (ht : ∀ i, t (ix1 i) = ((pole i : ℝ) : EReal))
    (a : Fin 4194304) (b : Fin 16) (hq : q (ix2 a 0) = BitVec.ofNat 32 b.val) :
    taken t q (ix1 a) = ((pole b : ℝ) : EReal) := by
  pointwise [taken]
  rw [fold_ones _ _ fun x _ => ?_, Argmin.take_at t q a b hq, ht]
  · rfl
  · rw [Subsingleton.elim (α := Fin 1) x 0, hq]; exact (place_word b).2

theorem poles_at (v : FVec Ideal S4194304 .f32) (o k : Fin 2048) : poles v (ix2 o k) = v (ix1 (flat o k)) := by
  pointwise [poles, flat]

theorem spacings_at (f : FVec Ideal S2048x2048 .f32) (o k : Fin 2048) : spacings f (ix2 o k) = spacing (f (ix2 o k)) := by
  pointwise [spacings, binades]
  rw [negInf]
  unfold spacing
  refine congrArg (fun f => Finset.fold max ⊥ f Finset.univ) (funext fun x => ?_)
  have e : S30.rowMajor (ix1 x) = x := Fin.ext (rowMajor_val1 _)
  rw [e, binade, ulp]
  show (if _ then _ else Ideal.ofBits .f32 0x33800000#32) = _
  rw [tiny]
  rfl

theorem moved_at (f s : FVec Ideal S2048x2048 .f32) (M R : FVec Ideal S2048x1 .f32) (o k : Fin 2048)
    (hs : s (ix2 o k) = spacing (f (ix2 o k))) :
    moved f s M R (ix2 o k) = round16 (f (ix2 o k)) * R (ix2 o 0) + M (ix2 o 0) := by
  pointwise [moved]
  rw [hs, over, under]
  show (if _ then Ideal.ofBits .f32 0x7F800000#32 else if _ then Ideal.ofBits .f32 0xFF800000#32 else _) * _ + _ = _
  rw [posInf, negInf]
  rfl

theorem noNaN_at (y : FVec Ideal S2048x2048 .f32) (o k : Fin 2048) : noNaN y (ix2 o k) = y (ix2 o k) := by
  pointwise [noNaN]
  simp

theorem noPosInf_at (y : FVec Ideal S2048x2048 .f32) (o k : Fin 2048) (h : y (ix2 o k) ≠ ⊤) :
    noPosInf y (ix2 o k) = y (ix2 o k) := by
  pointwise [noPosInf]
  rw [posInf, if_neg h]

theorem noNegInf_at (y : FVec Ideal S2048x2048 .f32) (o k : Fin 2048) (h : y (ix2 o k) ≠ ⊥) :
    noNegInf y (ix2 o k) = y (ix2 o k) := by
  pointwise [noNegInf]
  rw [negInf, if_neg h]

theorem product_at (v : FVec Ideal S2048x2048 .f32) (x : FVec Ideal S4096x2048 .f32) (b : Fin 4096) (o : Fin 2048) :
    product v x (ix2 b o) = ∑ k : Fin 2048, x (ix2 b k) * v (ix2 o k) := by
  pointwise [product]

/-! ## The steps together -/

theorem middleOf_at (w : FVec Ideal S2048x2048 .f32) (o : Fin 2048) : middleOf w (ix2 o 0) = Spec.offset (row w o) := by
  rw [middleOf, middle_at, greatest_at, least_at, Spec.offset]

theorem widthOf_at (w : FVec Ideal S2048x2048 .f32) (o : Fin 2048) : widthOf w (ix2 o 0) = Spec.range (row w o) := by
  rw [widthOf, width_at, greatest_at, least_at, Spec.range]

theorem found_at (w : FVec Ideal S2048x2048 .f32) (t : FVec Ideal S16 .f32) (ht : ∀ i, t (ix1 i) = ((pole i : ℝ) : EReal))
    (hw : ∀ o k, ∃ r : ℝ, w (ix2 o k) = (r : EReal)) (o k : Fin 2048) :
    found w t (ix2 o k) = ((pole (rank (Spec.scaled (row w o) k)) : ℝ) : EReal) := by
  refine (poles_at _ o k).trans (taken_at t _ ht _ _ (wrapped_at _ _ _
    (places_at _ _ ((Spec.row_coe (row w o) (hw o)).2.2 k) _ fun i => ?_)))
  rw [distances_at w t _ _ ht, flat_row, flat_col, middleOf_at, widthOf_at, Spec.scaled, row]

/-- The quantised weight at an index. No entry is a NaN, plus infinity or minus infinity, so the cleaning changes
    nothing. -/
theorem quantised_at (w : FVec Ideal S2048x2048 .f32) (t : FVec Ideal S16 .f32)
    (ht : ∀ i, t (ix1 i) = ((pole i : ℝ) : EReal)) (hw : ∀ o k, ∃ r : ℝ, w (ix2 o k) = (r : EReal)) (o k : Fin 2048) :
    quantised w t (ix2 o k) = Spec.quant (row w o) k := by
  have e : moved (found w t) (spacings (found w t)) (middleOf w) (widthOf w) (ix2 o k) = Spec.quant (row w o) k := by
    rw [moved_at _ _ _ _ _ _ (spacings_at _ _ _), found_at w t ht hw, round16_pole, middleOf_at, widthOf_at, Spec.quant]
  obtain ⟨r, hr⟩ := Spec.quant_coe (row w o) (hw o) k
  rw [hr] at e ⊢
  have e₁ := (noNaN_at _ o k).trans e
  have e₂ := (noPosInf_at _ o k (by rw [e₁]; exact EReal.coe_ne_top r)).trans e₁
  exact (noNegInf_at _ o k (by rw [e₂]; exact EReal.coe_ne_bot r)).trans e₂

/-- THE REFERENCE'S RESULT AT AN INDEX: a row of the input times a quantised row of the weight. -/
theorem result_at (w : FVec Ideal S2048x2048 .f32) (t : FVec Ideal S16 .f32)
    (ht : ∀ i, t (ix1 i) = ((pole i : ℝ) : EReal)) (hw : ∀ o k, ∃ r : ℝ, w (ix2 o k) = (r : EReal))
    (x : FVec Ideal S4096x2048 .f32) (b : Fin 4096) (o : Fin 2048) :
    product (quantised w t) x (ix2 b o) = Spec.prod (fun k => x (ix2 b k)) (row w o) := by
  rw [product_at, Spec.prod]
  exact Finset.sum_congr rfl fun k _ => by rw [quantised_at w t ht hw]

end Cert.RefValue

end
-- ==== Proof.Pre.lean ====
/- The precondition opened: the table is the NF4 table, every weight is real, and the kernel's one threshold word that is
   no midpoint parts the scaled weights as the midpoint does. -/
module

public import proofs.«01_k».proof.Proof.RefValue
public import Idealize.ShloMosaic.Lib.ReduceAll

@[expose] public section

set_option maxRecDepth 16384

noncomputable section

namespace Cert.Pre

open Idealize.ShloMosaic Cert.Nearest Cert.Consts Cert.Pre_nf4_table_finite_weight
open Cert.Pre_nf4_table_finite_weight.Facts

variable [Cert.Pre_nf4_table_finite_weight.Facts]

/-- A comparison's word that is one holds. -/
theorem of_word {p : Prop} [Decidable p] (h : BitVec.ofBool (decide p) = 1#1) : p := by
  by_contra hp
  rw [decide_eq_false hp] at h
  exact absurd h (by decide)

/-- Two comparisons with equal words hold together. -/
theorem iff_of_word {p q : Prop} [Decidable p] [Decidable q]
    (h : IntOp.cmpi .eq (BitVec.ofBool (decide p)) (BitVec.ofBool (decide q)) = 1#1) : p ↔ q := by
  by_cases hp : p <;> by_cases hq : q
  · exact ⟨fun _ => hq, fun _ => hp⟩
  · rw [decide_eq_true hp, decide_eq_false hq] at h
    exact absurd h (by decide)
  · rw [decide_eq_false hp, decide_eq_true hq] at h
    exact absurd h (by decide)
  · exact ⟨fun h => absurd h hp, fun h => absurd h hq⟩

/-! ## The three conjuncts, over any arrays -/

/-- The entries of the table are the poles. -/
theorem table_of (t : FVec Ideal S16 .f32)
    (h : ∀ i, cmpf .oeq t (fun i => FloatOps.ofBits (F := Ideal) .f32 (lit0 (S16.rowMajor i))) i = 1#1) (i : Fin 16) :
    t (ix1 i) = ((pole i : ℝ) : EReal) := by
  have e := h (ix1 i)
  pointwise at e
  have r : S16.rowMajor (ix1 i) = i := Fin.ext (rowMajor_val1 _)
  rw [r] at e
  exact (of_word e).trans (Consts.table i)

/-- An entry below plus infinity in absolute value is real. -/
theorem real_of (w : FVec Ideal S2048x2048 .f32)
    (h : ∀ i, cmpf .olt (Host.absf w) (broadcastInDim S2048x2048 ![] bcast_S_S2048x2048
      (constant (F := Ideal) S_ .f32 0x7F800000#32)) i = 1#1) (o k : Fin 2048) : ∃ r : ℝ, w (ix2 o k) = (r : EReal) := by
  have e := h (ix2 o k)
  pointwise at e
  rw [posInf] at e
  have e' : max (w (ix2 o k)) (-w (ix2 o k)) < (⊤ : EReal) := of_word e
  generalize w (ix2 o k) = x at e'
  induction x using EReal.rec with
  | bot => simp at e'
  | top => simp at e'
  | coe r => exact ⟨r, rfl⟩

theorem part_of (z : FVec Ideal S2048x2048 .f32)
    (h : ∀ i, cmpi .eq (cmpf .ogt (subf z (broadcastInDim S2048x2048 ![] bcast_S_S2048x2048 (constant (F := Ideal) S_ .f32 0x3EE1A4B8#32)))
        (subf (broadcastInDim S2048x2048 ![] bcast_S_S2048x2048 (constant (F := Ideal) S_ .f32 0x3F1007AB#32)) z))
      (cmpf .ogt z (broadcastInDim S2048x2048 ![] bcast_S_S2048x2048 (constant (F := Ideal) S_ .f32 0x3F006D04#32))) i = 1#1)
    (o k : Fin 2048) (hz : z (ix2 o k) ≠ ⊤) :
    Ideal.ofBits .f32 0x3F006D04#32 < z (ix2 o k) ↔ mid 12 < z (ix2 o k) := by
  have e := h (ix2 o k)
  pointwise at e
  rw [pole_12, pole_13] at e
  exact (iff_of_word e).symm.trans (mid_twelve _ hz)

/-! ## The precondition -/

/-- The weight, moved and scaled row by row. -/
def scaledOf (w : FVec Ideal S2048x2048 .f32) (M R : FVec Ideal S2048x1 .f32) : FVec Ideal S2048x2048 .f32 :=
  Host.divf (subf w (broadcastInDim S2048x2048 ![0, 1] bcast_S2048x1_S2048x2048_0_1 M))
    (broadcastInDim S2048x2048 ![0, 1] bcast_S2048x1_S2048x2048_0_1 R)

theorem scaledOf_at (w : FVec Ideal S2048x2048 .f32) (M R : FVec Ideal S2048x1 .f32) (o k : Fin 2048) :
    scaledOf w M R (ix2 o k) = Ideal.div (w (ix2 o k) - M (ix2 o 0)) (R (ix2 o 0)) := by
  pointwise [scaledOf]

/-- A conjunction that is one has ones on both sides. -/
theorem and_ones (a b : IVec S_ 1) (h : andi a b = fun _ => 1#1) : a = (fun _ => 1#1) ∧ b = fun _ => 1#1 := by
  have d : ∀ p q : BitVec 1, IntOp.andi p q = 1#1 → p = 1#1 ∧ q = 1#1 := by decide
  exact ⟨funext fun i => (d _ _ (congrFun h i)).1, funext fun i => (d _ _ (congrFun h i)).2⟩

/-- The index of a scalar is unique. -/
theorem one_index : Subsingleton S_.Idx := ⟨fun a b => funext fun i => i.elim0⟩

/-- THE PRECONDITION: what it says of the weight and the table. -/
theorem holds (x : FVec Ideal S4096x2048 .f32) (w : FVec Ideal S2048x2048 .f32) (t : FVec Ideal S16 .f32)
    (h : fn (F := Ideal) x w t = fun _ => 1#1) :
    (∀ i, t (ix1 i) = ((pole i : ℝ) : EReal)) ∧ (∀ o k, ∃ r : ℝ, w (ix2 o k) = (r : EReal))
      ∧ ∀ o k, Ideal.ofBits .f32 0x3F006D04#32 < Spec.scaled (RefValue.row w o) k ↔ mid 12 < Spec.scaled (RefValue.row w o) k := by
  haveI := one_index
  obtain ⟨h', h₃⟩ := and_ones (andi (Host.reduce IntOp.andi
      (cmpf .oeq t (fun i => FloatOps.ofBits (F := Ideal) .f32 (lit0 (S16.rowMajor i)))) (constantI S_ 1 1#1) reducesTo_S16_S_d0 h_S_)
    (Host.reduce IntOp.andi (cmpf .olt (Host.absf w) (broadcastInDim S2048x2048 ![] bcast_S_S2048x2048
      (constant (F := Ideal) S_ .f32 0x7F800000#32))) (constantI S_ 1 1#1) reducesTo_S2048x2048_S_d0_1 h_S_))
    (Host.reduce IntOp.andi (cmpi .eq (cmpf .ogt (subf (scaledOf w (RefTerm.middleOf w) (RefTerm.widthOf w))
          (broadcastInDim S2048x2048 ![] bcast_S_S2048x2048 (constant (F := Ideal) S_ .f32 0x3EE1A4B8#32)))
        (subf (broadcastInDim S2048x2048 ![] bcast_S_S2048x2048 (constant (F := Ideal) S_ .f32 0x3F1007AB#32))
          (scaledOf w (RefTerm.middleOf w) (RefTerm.widthOf w))))
      (cmpf .ogt (scaledOf w (RefTerm.middleOf w) (RefTerm.widthOf w))
        (broadcastInDim S2048x2048 ![] bcast_S_S2048x2048 (constant (F := Ideal) S_ .f32 0x3F006D04#32))))
      (constantI S_ 1 1#1) reducesTo_S2048x2048_S_d0_1 h_S_) h
  obtain ⟨h₁, h₂⟩ := and_ones _ _ h'
  have hw := real_of w (Host.reduce_andi_all _ _ _ _ ix0 (congrFun h₂ ix0))
  refine ⟨table_of t (Host.reduce_andi_all _ _ _ _ ix0 (congrFun h₁ ix0)), hw, fun o k => ?_⟩
  have e : scaledOf w (RefTerm.middleOf w) (RefTerm.widthOf w) (ix2 o k) = Spec.scaled (RefValue.row w o) k := by
    rw [scaledOf_at, RefValue.middleOf_at, RefValue.widthOf_at, Spec.scaled, RefValue.row]
  have p := part_of _ (Host.reduce_andi_all _ _ _ _ ix0 (congrFun h₃ ix0)) o k
    (by rw [e]; exact (Spec.row_coe _ (hw o)).2.2 k)
  rwa [e] at p

end Cert.Pre

end
-- ==== Proof.Equation.lean ====
/- The equation: under the precondition the kernel's result array and the reference's result are one array. -/
module

public import proofs.«01_k».proof.Proof.Array
public import proofs.«01_k».proof.Proof.Pre

@[expose] public section

noncomputable section

namespace Cert.Equation

open Idealize.ShloMosaic Cert.ReferenceIdeal

/-- The reference's result is the kernel's, on a weight of reals and the NF4 table. -/
theorem result_eq (x : FVec Ideal S4096x2048 .f32) (w : FVec Ideal S2048x2048 .f32) (t : FVec Ideal S16 .f32)
    (ht : ∀ i, t (ix1 i) = ((Consts.pole i : ℝ) : EReal)) (hw : ∀ o k, ∃ r : ℝ, w (ix2 o k) = (r : EReal)) :
    RefTerm.product (RefTerm.quantised w t) x = Cert.Array.G x w := by
  have e : ∀ v : FVec Ideal S4096x2048 .f32, (∀ b o, v (ix2 b o) = Spec.prod (fun k => x (ix2 b k)) (RefValue.row w o)) →
      v = Cert.Array.G x w := by
    intro v hv
    funext j
    idx_vars j
    exact hv _ _
  exact e _ fun b o => RefValue.result_at w t ht hw x b o

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Pre_nf4_table_finite_weight
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- Every device's three arguments keep their contents over the reference's run, and the reference has no counters. -/
theorem frame_reference (m : (ℓ : Loc ReferenceIdeal.nD ReferenceIdeal.τ ReferenceIdeal.sig) → Buf (Elt Ideal) ℓ)
    (ρ : Dev ReferenceIdeal.nD → PrngReg) :
    θ_run (ReferenceIdeal.defs (F := Ideal)) (onTc (τ := ReferenceIdeal.τ) (ReferenceIdeal.main (F := Ideal))) ⟨m, fun _ => 0, ρ⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2))
        ∧ r.2.sem = fun _ => 0) :=
  (θ_run ReferenceIdeal.defs _ _).mono (fun r h => ⟨fun c => (h c).2, sem_eq_zero_of_no_sems (by decide) r.2⟩)
    (RefTerm.run m ρ)

/-- Each midpoint's name denotes its stated value. -/
theorem preserves : Cert.preserves_Kernel_KernelIdeal :=
  ⟨IdealRules.named_const.statement Cert.KernelIdeal.κ "mid0" .f32 0xBF591CD8#32 ((-28457393 / 33554432 : ℝ) : EReal) rfl,
   IdealRules.named_const.statement Cert.KernelIdeal.κ "mid1" .f32 0xBF1C5270#32 ((-20489441 / 33554432 : ℝ) : EReal) rfl,
   IdealRules.named_const.statement Cert.KernelIdeal.κ "mid3" .f32 0xBEADEA76#32 ((-22795501 / 67108864 : ℝ) : EReal) rfl,
   IdealRules.named_const.statement Cert.KernelIdeal.κ "mid4" .f32 0xBE703CEC#32 ((-31488473 / 134217728 : ℝ) : EReal) rfl,
   IdealRules.named_const.statement Cert.KernelIdeal.κ "mid5" .f32 0xBE0D38BC#32 ((-37020399 / 268435456 : ℝ) : EReal) rfl,
   IdealRules.named_const.statement Cert.KernelIdeal.κ "mid8" .f32 0x3DF64862#32 ((32280773 / 268435456 : ℝ) : EReal) rfl,
   IdealRules.named_const.statement Cert.KernelIdeal.κ "mid10" .f32 0x3E9582D4#32 ((39193425 / 134217728 : ℝ) : EReal) rfl,
   IdealRules.named_const.statement Cert.KernelIdeal.κ "mid14" .f32 0x3F5C89DA#32 ((28906419 / 33554432 : ℝ) : EReal) rfl⟩

/-- The two programs end with equal results over the extended reals, under the precondition. -/
theorem algebraic : Cert.algebraic_KernelIdeal_ReferenceIdeal_pre_nf4_table_finite_weight
    (hKernelIdeal := Cert.KernelIdeal.Gen.facts) (hReferenceIdeal := Cert.ReferenceIdeal.Gen.facts)
    (hPre_nf4_table_finite_weight := Cert.Pre_nf4_table_finite_weight.Gen.facts) := by
  intro m g m' g' hpre hagree
  refine ⟨_, KernelIdeal.Value.run_blocks m g, ?_⟩
  refine (θ_run ReferenceIdeal.defs _ _).mono (fun _ h c => ⟨(h c).1.trans ?_, (h c).2⟩) (RefTerm.run m' g')
  obtain ⟨ht, hw, h12⟩ := Pre.holds _ _ _ (hpre c)
  rw [(hagree c).1, (hagree c).2.1, (hagree c).2.2]
  exact (Equation.result_eq _ _ _ ht hw).trans (Cert.Array.out_at m c _ _ rfl rfl h12).symm

theorem claim : Cert.Claim :=
  ⟨Cert.Kernel.Gen.facts, Cert.KernelIdeal.Gen.facts, Cert.ReferenceIdeal.Gen.facts, Cert.Pre_nf4_table_finite_weight.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ,
    fun m ρ _ => frame_reference m ρ,
    preserves,
    algebraic⟩

end Cert.Proof

end
